-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x99999 : Shape := ⟨2, ![128, 99999]⟩
abbrev S8x100000 : Shape := ⟨2, ![8, 100000]⟩
abbrev S8x99999 : Shape := ⟨2, ![8, 99999]⟩
abbrev S8 : Shape := ⟨1, ![8]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x99999, .f32⟩
  | .local _ .vmem, ⟨0, _⟩ => ⟨S8x100000, .f32⟩
  | .local _ .vmem, ⟨1, _⟩ => ⟨S8x100000, .f32⟩
  | .local _ .vmem, ⟨2, _⟩ => ⟨S8x99999, .f32⟩
  | .local _ .vmem, ⟨3, _⟩ => ⟨S8x99999, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x99999 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S99999 : Shape := ⟨1, ![99999]⟩
abbrev S1x99999 : Shape := ⟨2, ![1, 99999]⟩
abbrev S128x1 : Shape := ⟨2, ![128, 1]⟩
abbrev S128x99999 : Shape := ⟨2, ![128, 99999]⟩

abbrev nBuf : Space → Nat
  | .hbm => 296
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S128x100000, .f32⟩
  | 13 => ⟨S128x100000, .f32⟩
  | 14 => ⟨S128x100000, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S_, .i64⟩
  | 30 => ⟨S128x100000, .i64⟩
  | 31 => ⟨S128x100000, .i64⟩
  | 32 => ⟨S128x100000, .i64⟩
  | 33 => ⟨S_, .i64⟩
  | 34 => ⟨S128x100000, .i64⟩
  | 35 => ⟨S128x100000, .i64⟩
  | 36 => ⟨S128x100000, .i32⟩
  | 37 => ⟨S128x100000, .i32⟩
  | 38 => ⟨S_, .i32⟩
  | 39 => ⟨S_, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .f32⟩
  | 12 => ⟨S_, .f32⟩
  | 13 => ⟨S128x100000, .f32⟩
  | 14 => ⟨S128x100000, .f32⟩
  | 15 => ⟨S1x1, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S128x100000, .i32⟩
  | 28 => ⟨S_, .f32⟩
  | 29 => ⟨S_, .i32⟩
  | 30 => ⟨S128, .f32⟩
  | 31 => ⟨S128, .i32⟩
  | 32 => ⟨S128, .f32⟩
  | 33 => ⟨S99999, .f32⟩
  | 34 => ⟨S1x99999, .f32⟩
  | 35 => ⟨S128x1, .f32⟩
  | 36 => ⟨S128x99999, .f32⟩
  | 37 => ⟨S128x99999, .f32⟩
  | 38 => ⟨S128x99999, .i1⟩
  | 39 => ⟨S128x99999, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_cst_0 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_c : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_c_0 : Ref sig .tc := ⟨.hbm, 29, rfl⟩
abbrev main_call0_call0_v11 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_call0_c_1 : Ref sig .tc := ⟨.hbm, 33, rfl⟩
abbrev main_call0_call0_v14 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_v17 : Ref sig .tc := ⟨.hbm, 37, rfl⟩
abbrev main_call0_call0_call0_v0 : Ref sig .tc := ⟨.hbm, 38, rfl⟩
abbrev main_call0_call0_call0_c : Ref sig .tc := ⟨.hbm, 39, rfl⟩
abbrev main_call0_call0_call0_v1 : Ref sig .tc := ⟨.hbm, 40, rfl⟩
abbrev main_call0_call0_call0_v2 : Ref sig .tc := ⟨.hbm, 41, rfl⟩
abbrev main_call0_call0_call0_v3 : Ref sig .tc := ⟨.hbm, 42, rfl⟩
abbrev main_call0_call0_call0_v4 : Ref sig .tc := ⟨.hbm, 43, rfl⟩
abbrev main_call0_call0_call0_v5 : Ref sig .tc := ⟨.hbm, 44, rfl⟩
abbrev main_call0_call0_call0_v6 : Ref sig .tc := ⟨.hbm, 45, rfl⟩
abbrev main_call0_call0_call0_c_0 : Ref sig .tc := ⟨.hbm, 46, rfl⟩
abbrev main_call0_call0_call0_v7 : Ref sig .tc := ⟨.hbm, 47, rfl⟩
abbrev main_call0_call0_call0_v8 : Ref sig .tc := ⟨.hbm, 48, rfl⟩
abbrev main_call0_call0_call0_c_1 : Ref sig .tc := ⟨.hbm, 49, rfl⟩
abbrev main_call0_call0_call0_v9 : Ref sig .tc := ⟨.hbm, 50, rfl⟩
abbrev main_call0_call0_call0_v10 : Ref sig .tc := ⟨.hbm, 51, rfl⟩
abbrev main_call0_call0_call0_v11 : Ref sig .tc := ⟨.hbm, 52, rfl⟩
abbrev main_call0_call0_call0_v12 : Ref sig .tc := ⟨.hbm, 53, rfl⟩
abbrev main_call0_call0_call0_v13 : Ref sig .tc := ⟨.hbm, 54, rfl⟩
abbrev main_call0_call0_call0_c_2 : Ref sig .tc := ⟨.hbm, 55, rfl⟩
abbrev main_call0_call0_call0_v14 : Ref sig .tc := ⟨.hbm, 56, rfl⟩
abbrev main_call0_call0_call0_v15 : Ref sig .tc := ⟨.hbm, 57, rfl⟩
abbrev main_call0_call0_call0_c_3 : Ref sig .tc := ⟨.hbm, 58, rfl⟩
abbrev main_call0_call0_call0_v16 : Ref sig .tc := ⟨.hbm, 59, rfl⟩
abbrev main_call0_call0_call0_v17 : Ref sig .tc := ⟨.hbm, 60, rfl⟩
abbrev main_call0_call0_call0_v18 : Ref sig .tc := ⟨.hbm, 61, rfl⟩
abbrev main_call0_call0_call0_v19 : Ref sig .tc := ⟨.hbm, 62, rfl⟩
abbrev main_call0_call0_call0_v20 : Ref sig .tc := ⟨.hbm, 63, rfl⟩
abbrev main_call0_call0_call0_c_4 : Ref sig .tc := ⟨.hbm, 64, rfl⟩
abbrev main_call0_call0_call0_v21 : Ref sig .tc := ⟨.hbm, 65, rfl⟩
abbrev main_call0_call0_call0_v22 : Ref sig .tc := ⟨.hbm, 66, rfl⟩
abbrev main_call0_call0_call0_c_5 : Ref sig .tc := ⟨.hbm, 67, rfl⟩
abbrev main_call0_call0_call0_v23 : Ref sig .tc := ⟨.hbm, 68, rfl⟩
abbrev main_call0_call0_call0_v24 : Ref sig .tc := ⟨.hbm, 69, rfl⟩
abbrev main_call0_call0_call0_v25 : Ref sig .tc := ⟨.hbm, 70, rfl⟩
abbrev main_call0_call0_call0_v26 : Ref sig .tc := ⟨.hbm, 71, rfl⟩
abbrev main_call0_call0_call0_v27 : Ref sig .tc := ⟨.hbm, 72, rfl⟩
abbrev main_call0_call0_call0_c_6 : Ref sig .tc := ⟨.hbm, 73, rfl⟩
abbrev main_call0_call0_call0_v28 : Ref sig .tc := ⟨.hbm, 74, rfl⟩
abbrev main_call0_call0_call0_v29 : Ref sig .tc := ⟨.hbm, 75, rfl⟩
abbrev main_call0_call0_call0_c_7 : Ref sig .tc := ⟨.hbm, 76, rfl⟩
abbrev main_call0_call0_call0_v30 : Ref sig .tc := ⟨.hbm, 77, rfl⟩
abbrev main_call0_call0_call0_v31 : Ref sig .tc := ⟨.hbm, 78, rfl⟩
abbrev main_call0_call0_call0_v32 : Ref sig .tc := ⟨.hbm, 79, rfl⟩
abbrev main_call0_call0_call0_v33 : Ref sig .tc := ⟨.hbm, 80, rfl⟩
abbrev main_call0_call0_call0_v34 : Ref sig .tc := ⟨.hbm, 81, rfl⟩
abbrev main_call0_call0_call0_v35 : Ref sig .tc := ⟨.hbm, 82, rfl⟩
abbrev main_call0_call0_call0_v36 : Ref sig .tc := ⟨.hbm, 83, rfl⟩
abbrev main_call0_call0_call0_v37 : Ref sig .tc := ⟨.hbm, 84, rfl⟩
abbrev main_call0_call0_call0_c_8 : Ref sig .tc := ⟨.hbm, 85, rfl⟩
abbrev main_call0_call0_call0_v38 : Ref sig .tc := ⟨.hbm, 86, rfl⟩
abbrev main_call0_call0_call0_v39 : Ref sig .tc := ⟨.hbm, 87, rfl⟩
abbrev main_call0_call0_call0_v40 : Ref sig .tc := ⟨.hbm, 88, rfl⟩
abbrev main_call0_call0_call0_c_9 : Ref sig .tc := ⟨.hbm, 89, rfl⟩
abbrev main_call0_call0_call0_v41 : Ref sig .tc := ⟨.hbm, 90, rfl⟩
abbrev main_call0_call0_call0_v42 : Ref sig .tc := ⟨.hbm, 91, rfl⟩
abbrev main_call0_call0_call0_c_10 : Ref sig .tc := ⟨.hbm, 92, rfl⟩
abbrev main_call0_call0_call0_v43 : Ref sig .tc := ⟨.hbm, 93, rfl⟩
abbrev main_call0_call0_call0_v44 : Ref sig .tc := ⟨.hbm, 94, rfl⟩
abbrev main_call0_call0_call0_v45 : Ref sig .tc := ⟨.hbm, 95, rfl⟩
abbrev main_call0_call0_call0_v46 : Ref sig .tc := ⟨.hbm, 96, rfl⟩
abbrev main_call0_call0_call0_v47 : Ref sig .tc := ⟨.hbm, 97, rfl⟩
abbrev main_call0_call0_call0_c_11 : Ref sig .tc := ⟨.hbm, 98, rfl⟩
abbrev main_call0_call0_call0_v48 : Ref sig .tc := ⟨.hbm, 99, rfl⟩
abbrev main_call0_call0_call0_v49 : Ref sig .tc := ⟨.hbm, 100, rfl⟩
abbrev main_call0_call0_call0_c_12 : Ref sig .tc := ⟨.hbm, 101, rfl⟩
abbrev main_call0_call0_call0_v50 : Ref sig .tc := ⟨.hbm, 102, rfl⟩
abbrev main_call0_call0_call0_v51 : Ref sig .tc := ⟨.hbm, 103, rfl⟩
abbrev main_call0_call0_call0_v52 : Ref sig .tc := ⟨.hbm, 104, rfl⟩
abbrev main_call0_call0_call0_v53 : Ref sig .tc := ⟨.hbm, 105, rfl⟩
abbrev main_call0_call0_call0_v54 : Ref sig .tc := ⟨.hbm, 106, rfl⟩
abbrev main_call0_call0_call0_c_13 : Ref sig .tc := ⟨.hbm, 107, rfl⟩
abbrev main_call0_call0_call0_v55 : Ref sig .tc := ⟨.hbm, 108, rfl⟩
abbrev main_call0_call0_call0_v56 : Ref sig .tc := ⟨.hbm, 109, rfl⟩
abbrev main_call0_call0_call0_c_14 : Ref sig .tc := ⟨.hbm, 110, rfl⟩
abbrev main_call0_call0_call0_v57 : Ref sig .tc := ⟨.hbm, 111, rfl⟩
abbrev main_call0_call0_call0_v58 : Ref sig .tc := ⟨.hbm, 112, rfl⟩
abbrev main_call0_call0_call0_v59 : Ref sig .tc := ⟨.hbm, 113, rfl⟩
abbrev main_call0_call0_call0_v60 : Ref sig .tc := ⟨.hbm, 114, rfl⟩
abbrev main_call0_call0_call0_v61 : Ref sig .tc := ⟨.hbm, 115, rfl⟩
abbrev main_call0_call0_call0_c_15 : Ref sig .tc := ⟨.hbm, 116, rfl⟩
abbrev main_call0_call0_call0_v62 : Ref sig .tc := ⟨.hbm, 117, rfl⟩
abbrev main_call0_call0_call0_v63 : Ref sig .tc := ⟨.hbm, 118, rfl⟩
abbrev main_call0_call0_call0_c_16 : Ref sig .tc := ⟨.hbm, 119, rfl⟩
abbrev main_call0_call0_call0_v64 : Ref sig .tc := ⟨.hbm, 120, rfl⟩
abbrev main_call0_call0_call0_v65 : Ref sig .tc := ⟨.hbm, 121, rfl⟩
abbrev main_call0_call0_call0_v66 : Ref sig .tc := ⟨.hbm, 122, rfl⟩
abbrev main_call0_call0_call0_v67 : Ref sig .tc := ⟨.hbm, 123, rfl⟩
abbrev main_call0_call0_call0_v68 : Ref sig .tc := ⟨.hbm, 124, rfl⟩
abbrev main_call0_call0_call0_v69 : Ref sig .tc := ⟨.hbm, 125, rfl⟩
abbrev main_call0_call0_call0_v70 : Ref sig .tc := ⟨.hbm, 126, rfl⟩
abbrev main_call0_call0_call0_v71 : Ref sig .tc := ⟨.hbm, 127, rfl⟩
abbrev main_call0_call0_call0_c_17 : Ref sig .tc := ⟨.hbm, 128, rfl⟩
abbrev main_call0_call0_call0_v72 : Ref sig .tc := ⟨.hbm, 129, rfl⟩
abbrev main_call0_call0_call0_v73 : Ref sig .tc := ⟨.hbm, 130, rfl⟩
abbrev main_call0_call0_call0_v74 : Ref sig .tc := ⟨.hbm, 131, rfl⟩
abbrev main_call0_call0_call0_c_18 : Ref sig .tc := ⟨.hbm, 132, rfl⟩
abbrev main_call0_call0_call0_v75 : Ref sig .tc := ⟨.hbm, 133, rfl⟩
abbrev main_call0_call0_call0_v76 : Ref sig .tc := ⟨.hbm, 134, rfl⟩
abbrev main_call0_call0_call0_c_19 : Ref sig .tc := ⟨.hbm, 135, rfl⟩
abbrev main_call0_call0_call0_v77 : Ref sig .tc := ⟨.hbm, 136, rfl⟩
abbrev main_call0_call0_call0_v78 : Ref sig .tc := ⟨.hbm, 137, rfl⟩
abbrev main_call0_call0_call0_v79 : Ref sig .tc := ⟨.hbm, 138, rfl⟩
abbrev main_call0_call0_call0_v80 : Ref sig .tc := ⟨.hbm, 139, rfl⟩
abbrev main_call0_call0_call0_v81 : Ref sig .tc := ⟨.hbm, 140, rfl⟩
abbrev main_call0_call0_call0_c_20 : Ref sig .tc := ⟨.hbm, 141, rfl⟩
abbrev main_call0_call0_call0_v82 : Ref sig .tc := ⟨.hbm, 142, rfl⟩
abbrev main_call0_call0_call0_v83 : Ref sig .tc := ⟨.hbm, 143, rfl⟩
abbrev main_call0_call0_call0_c_21 : Ref sig .tc := ⟨.hbm, 144, rfl⟩
abbrev main_call0_call0_call0_v84 : Ref sig .tc := ⟨.hbm, 145, rfl⟩
abbrev main_call0_call0_call0_v85 : Ref sig .tc := ⟨.hbm, 146, rfl⟩
abbrev main_call0_call0_call0_v86 : Ref sig .tc := ⟨.hbm, 147, rfl⟩
abbrev main_call0_call0_call0_v87 : Ref sig .tc := ⟨.hbm, 148, rfl⟩
abbrev main_call0_call0_call0_v88 : Ref sig .tc := ⟨.hbm, 149, rfl⟩
abbrev main_call0_call0_call0_c_22 : Ref sig .tc := ⟨.hbm, 150, rfl⟩
abbrev main_call0_call0_call0_v89 : Ref sig .tc := ⟨.hbm, 151, rfl⟩
abbrev main_call0_call0_call0_v90 : Ref sig .tc := ⟨.hbm, 152, rfl⟩
abbrev main_call0_call0_call0_c_23 : Ref sig .tc := ⟨.hbm, 153, rfl⟩
abbrev main_call0_call0_call0_v91 : Ref sig .tc := ⟨.hbm, 154, rfl⟩
abbrev main_call0_call0_call0_v92 : Ref sig .tc := ⟨.hbm, 155, rfl⟩
abbrev main_call0_call0_call0_v93 : Ref sig .tc := ⟨.hbm, 156, rfl⟩
abbrev main_call0_call0_call0_v94 : Ref sig .tc := ⟨.hbm, 157, rfl⟩
abbrev main_call0_call0_call0_v95 : Ref sig .tc := ⟨.hbm, 158, rfl⟩
abbrev main_call0_call0_call0_c_24 : Ref sig .tc := ⟨.hbm, 159, rfl⟩
abbrev main_call0_call0_call0_v96 : Ref sig .tc := ⟨.hbm, 160, rfl⟩
abbrev main_call0_call0_call0_v97 : Ref sig .tc := ⟨.hbm, 161, rfl⟩
abbrev main_call0_call0_call0_c_25 : Ref sig .tc := ⟨.hbm, 162, rfl⟩
abbrev main_call0_call0_call0_v98 : Ref sig .tc := ⟨.hbm, 163, rfl⟩
abbrev main_call0_call0_call0_v99 : Ref sig .tc := ⟨.hbm, 164, rfl⟩
abbrev main_call0_call0_call0_v100 : Ref sig .tc := ⟨.hbm, 165, rfl⟩
abbrev main_call0_call0_call0_v101 : Ref sig .tc := ⟨.hbm, 166, rfl⟩
abbrev main_call0_call0_call0_v102 : Ref sig .tc := ⟨.hbm, 167, rfl⟩
abbrev main_call0_call0_call0_v103 : Ref sig .tc := ⟨.hbm, 168, rfl⟩
abbrev main_call0_call0_call0_v104 : Ref sig .tc := ⟨.hbm, 169, rfl⟩
abbrev main_call0_call0_call0_v105 : Ref sig .tc := ⟨.hbm, 170, rfl⟩
abbrev main_call0_call0_call0_c_26 : Ref sig .tc := ⟨.hbm, 171, rfl⟩
abbrev main_call0_call0_call0_v106 : Ref sig .tc := ⟨.hbm, 172, rfl⟩
abbrev main_call0_call0_call0_v107 : Ref sig .tc := ⟨.hbm, 173, rfl⟩
abbrev main_call0_call0_call0_v108 : Ref sig .tc := ⟨.hbm, 174, rfl⟩
abbrev main_call0_call0_call0_c_27 : Ref sig .tc := ⟨.hbm, 175, rfl⟩
abbrev main_call0_call0_call0_v109 : Ref sig .tc := ⟨.hbm, 176, rfl⟩
abbrev main_call0_call0_call0_v110 : Ref sig .tc := ⟨.hbm, 177, rfl⟩
abbrev main_call0_call0_call0_c_28 : Ref sig .tc := ⟨.hbm, 178, rfl⟩
abbrev main_call0_call0_call0_v111 : Ref sig .tc := ⟨.hbm, 179, rfl⟩
abbrev main_call0_call0_call0_v112 : Ref sig .tc := ⟨.hbm, 180, rfl⟩
abbrev main_call0_call0_call0_v113 : Ref sig .tc := ⟨.hbm, 181, rfl⟩
abbrev main_call0_call0_call0_v114 : Ref sig .tc := ⟨.hbm, 182, rfl⟩
abbrev main_call0_call0_call0_v115 : Ref sig .tc := ⟨.hbm, 183, rfl⟩
abbrev main_call0_call0_call0_c_29 : Ref sig .tc := ⟨.hbm, 184, rfl⟩
abbrev main_call0_call0_call0_v116 : Ref sig .tc := ⟨.hbm, 185, rfl⟩
abbrev main_call0_call0_call0_v117 : Ref sig .tc := ⟨.hbm, 186, rfl⟩
abbrev main_call0_call0_call0_c_30 : Ref sig .tc := ⟨.hbm, 187, rfl⟩
abbrev main_call0_call0_call0_v118 : Ref sig .tc := ⟨.hbm, 188, rfl⟩
abbrev main_call0_call0_call0_v119 : Ref sig .tc := ⟨.hbm, 189, rfl⟩
abbrev main_call0_call0_call0_v120 : Ref sig .tc := ⟨.hbm, 190, rfl⟩
abbrev main_call0_call0_call0_v121 : Ref sig .tc := ⟨.hbm, 191, rfl⟩
abbrev main_call0_call0_call0_v122 : Ref sig .tc := ⟨.hbm, 192, rfl⟩
abbrev main_call0_call0_call0_c_31 : Ref sig .tc := ⟨.hbm, 193, rfl⟩
abbrev main_call0_call0_call0_v123 : Ref sig .tc := ⟨.hbm, 194, rfl⟩
abbrev main_call0_call0_call0_v124 : Ref sig .tc := ⟨.hbm, 195, rfl⟩
abbrev main_call0_call0_call0_c_32 : Ref sig .tc := ⟨.hbm, 196, rfl⟩
abbrev main_call0_call0_call0_v125 : Ref sig .tc := ⟨.hbm, 197, rfl⟩
abbrev main_call0_call0_call0_v126 : Ref sig .tc := ⟨.hbm, 198, rfl⟩
abbrev main_call0_call0_call0_v127 : Ref sig .tc := ⟨.hbm, 199, rfl⟩
abbrev main_call0_call0_call0_v128 : Ref sig .tc := ⟨.hbm, 200, rfl⟩
abbrev main_call0_call0_call0_v129 : Ref sig .tc := ⟨.hbm, 201, rfl⟩
abbrev main_call0_call0_call0_c_33 : Ref sig .tc := ⟨.hbm, 202, rfl⟩
abbrev main_call0_call0_call0_v130 : Ref sig .tc := ⟨.hbm, 203, rfl⟩
abbrev main_call0_call0_call0_v131 : Ref sig .tc := ⟨.hbm, 204, rfl⟩
abbrev main_call0_call0_call0_c_34 : Ref sig .tc := ⟨.hbm, 205, rfl⟩
abbrev main_call0_call0_call0_v132 : Ref sig .tc := ⟨.hbm, 206, rfl⟩
abbrev main_call0_call0_call0_v133 : Ref sig .tc := ⟨.hbm, 207, rfl⟩
abbrev main_call0_call0_call0_v134 : Ref sig .tc := ⟨.hbm, 208, rfl⟩
abbrev main_call0_call0_call0_v135 : Ref sig .tc := ⟨.hbm, 209, rfl⟩
abbrev main_call0_call0_call0_v136 : Ref sig .tc := ⟨.hbm, 210, rfl⟩
abbrev main_call0_call0_call0_v137 : Ref sig .tc := ⟨.hbm, 211, rfl⟩
abbrev main_call0_call0_call0_v138 : Ref sig .tc := ⟨.hbm, 212, rfl⟩
abbrev main_call0_call0_call0_v139 : Ref sig .tc := ⟨.hbm, 213, rfl⟩
abbrev main_call0_call0_call0_c_35 : Ref sig .tc := ⟨.hbm, 214, rfl⟩
abbrev main_call0_call0_call0_v140 : Ref sig .tc := ⟨.hbm, 215, rfl⟩
abbrev main_call0_call0_call0_v141 : Ref sig .tc := ⟨.hbm, 216, rfl⟩
abbrev main_call0_call0_call0_v142 : Ref sig .tc := ⟨.hbm, 217, rfl⟩
abbrev main_call0_call0_call0_c_36 : Ref sig .tc := ⟨.hbm, 218, rfl⟩
abbrev main_call0_call0_call0_v143 : Ref sig .tc := ⟨.hbm, 219, rfl⟩
abbrev main_call0_call0_call0_v144 : Ref sig .tc := ⟨.hbm, 220, rfl⟩
abbrev main_call0_call0_call0_c_37 : Ref sig .tc := ⟨.hbm, 221, rfl⟩
abbrev main_call0_call0_call0_v145 : Ref sig .tc := ⟨.hbm, 222, rfl⟩
abbrev main_call0_call0_call0_v146 : Ref sig .tc := ⟨.hbm, 223, rfl⟩
abbrev main_call0_call0_call0_v147 : Ref sig .tc := ⟨.hbm, 224, rfl⟩
abbrev main_call0_call0_call0_v148 : Ref sig .tc := ⟨.hbm, 225, rfl⟩
abbrev main_call0_call0_call0_v149 : Ref sig .tc := ⟨.hbm, 226, rfl⟩
abbrev main_call0_call0_call0_c_38 : Ref sig .tc := ⟨.hbm, 227, rfl⟩
abbrev main_call0_call0_call0_v150 : Ref sig .tc := ⟨.hbm, 228, rfl⟩
abbrev main_call0_call0_call0_v151 : Ref sig .tc := ⟨.hbm, 229, rfl⟩
abbrev main_call0_call0_call0_c_39 : Ref sig .tc := ⟨.hbm, 230, rfl⟩
abbrev main_call0_call0_call0_v152 : Ref sig .tc := ⟨.hbm, 231, rfl⟩
abbrev main_call0_call0_call0_v153 : Ref sig .tc := ⟨.hbm, 232, rfl⟩
abbrev main_call0_call0_call0_v154 : Ref sig .tc := ⟨.hbm, 233, rfl⟩
abbrev main_call0_call0_call0_v155 : Ref sig .tc := ⟨.hbm, 234, rfl⟩
abbrev main_call0_call0_call0_v156 : Ref sig .tc := ⟨.hbm, 235, rfl⟩
abbrev main_call0_call0_call0_c_40 : Ref sig .tc := ⟨.hbm, 236, rfl⟩
abbrev main_call0_call0_call0_v157 : Ref sig .tc := ⟨.hbm, 237, rfl⟩
abbrev main_call0_call0_call0_v158 : Ref sig .tc := ⟨.hbm, 238, rfl⟩
abbrev main_call0_call0_call0_c_41 : Ref sig .tc := ⟨.hbm, 239, rfl⟩
abbrev main_call0_call0_call0_v159 : Ref sig .tc := ⟨.hbm, 240, rfl⟩
abbrev main_call0_call0_call0_v160 : Ref sig .tc := ⟨.hbm, 241, rfl⟩
abbrev main_call0_call0_call0_v161 : Ref sig .tc := ⟨.hbm, 242, rfl⟩
abbrev main_call0_call0_call0_v162 : Ref sig .tc := ⟨.hbm, 243, rfl⟩
abbrev main_call0_call0_call0_v163 : Ref sig .tc := ⟨.hbm, 244, rfl⟩
abbrev main_call0_call0_call0_c_42 : Ref sig .tc := ⟨.hbm, 245, rfl⟩
abbrev main_call0_call0_call0_v164 : Ref sig .tc := ⟨.hbm, 246, rfl⟩
abbrev main_call0_call0_call0_v165 : Ref sig .tc := ⟨.hbm, 247, rfl⟩
abbrev main_call0_call0_call0_c_43 : Ref sig .tc := ⟨.hbm, 248, rfl⟩
abbrev main_call0_call0_call0_v166 : Ref sig .tc := ⟨.hbm, 249, rfl⟩
abbrev main_call0_call0_call0_v167 : Ref sig .tc := ⟨.hbm, 250, rfl⟩
abbrev main_call0_call0_call0_v168 : Ref sig .tc := ⟨.hbm, 251, rfl⟩
abbrev main_call0_call0_call0_v169 : Ref sig .tc := ⟨.hbm, 252, rfl⟩
abbrev main_call0_call0_call0_v170 : Ref sig .tc := ⟨.hbm, 253, rfl⟩
abbrev main_call0_call0_v18_0 : Ref sig .tc := ⟨.hbm, 254, rfl⟩
abbrev main_call0_call0_call0_v172 : Ref sig .tc := ⟨.hbm, 255, rfl⟩
abbrev main_call0_call0_call0_v173 : Ref sig .tc := ⟨.hbm, 256, rfl⟩
abbrev main_call0_call0_call0_c_44 : Ref sig .tc := ⟨.hbm, 257, rfl⟩
abbrev main_call0_call0_call0_v174 : Ref sig .tc := ⟨.hbm, 258, rfl⟩
abbrev main_call0_call0_v18_1 : Ref sig .tc := ⟨.hbm, 259, rfl⟩
abbrev main_call0_call0_v19 : Ref sig .tc := ⟨.hbm, 260, rfl⟩
abbrev main_call0_call0_c_2 : Ref sig .tc := ⟨.hbm, 261, rfl⟩
abbrev main_call0_call0_v20 : Ref sig .tc := ⟨.hbm, 262, rfl⟩
abbrev main_call0_call0_v21 : Ref sig .tc := ⟨.hbm, 263, rfl⟩
abbrev main_call0_call0_c_3 : Ref sig .tc := ⟨.hbm, 264, rfl⟩
abbrev main_call0_call0_v22 : Ref sig .tc := ⟨.hbm, 265, rfl⟩
abbrev main_call0_call0_v23 : Ref sig .tc := ⟨.hbm, 266, rfl⟩
abbrev main_call0_call0_v24 : Ref sig .tc := ⟨.hbm, 267, rfl⟩
abbrev main_call0_call0_cst : Ref sig .tc := ⟨.hbm, 268, rfl⟩
abbrev main_call0_call0_v25 : Ref sig .tc := ⟨.hbm, 269, rfl⟩
abbrev main_call0_call0_v26 : Ref sig .tc := ⟨.hbm, 270, rfl⟩
abbrev main_call0_call0_v27 : Ref sig .tc := ⟨.hbm, 271, rfl⟩
abbrev main_call0_call0_v28 : Ref sig .tc := ⟨.hbm, 272, rfl⟩
abbrev main_call0_call0_v29 : Ref sig .tc := ⟨.hbm, 273, rfl⟩
abbrev main_call0_call0_v30 : Ref sig .tc := ⟨.hbm, 274, rfl⟩
abbrev main_call0_call0_v31 : Ref sig .tc := ⟨.hbm, 275, rfl⟩
abbrev main_call0_call0_v32 : Ref sig .tc := ⟨.hbm, 276, rfl⟩
abbrev main_call0_v0 : Ref sig .tc := ⟨.hbm, 277, rfl⟩
abbrev main_call0_v1 : Ref sig .tc := ⟨.hbm, 278, rfl⟩
abbrev main_call0_v2 : Ref sig .tc := ⟨.hbm, 279, rfl⟩
abbrev main_call0_v3 : Ref sig .tc := ⟨.hbm, 280, rfl⟩
abbrev main_v10 : Ref sig .tc := ⟨.hbm, 281, rfl⟩
abbrev main_v11 : Ref sig .tc := ⟨.hbm, 282, rfl⟩
abbrev main_call1_v0 : Ref sig .tc := ⟨.hbm, 283, rfl⟩
abbrev main_call1_cst : Ref sig .tc := ⟨.hbm, 284, rfl⟩
abbrev main_call1_c : Ref sig .tc := ⟨.hbm, 285, rfl⟩
abbrev main_call1_v1_0 : Ref sig .tc := ⟨.hbm, 286, rfl⟩
abbrev main_v12 : Ref sig .tc := ⟨.hbm, 287, rfl⟩
abbrev main_v13 : Ref sig .tc := ⟨.hbm, 288, rfl⟩
abbrev main_v14 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_v18 : Ref sig .tc := ⟨.hbm, 293, rfl⟩
abbrev main_v19 : Ref sig .tc := ⟨.hbm, 294, rfl⟩
abbrev main_v20 : Ref sig .tc := ⟨.hbm, 295, rfl⟩

abbrev nD : Nat := 1
abbrev τ : Topo := Topo.v7x

variable {F : FTy → Type} [FloatOps F]
-- ==== Proof.Words.lean ====
/- The pseudo-random words of the sampler as plain functions on 32-bit words: twenty rounds of add, rotate and
   exclusive or, in five groups of four, each group followed by the addition of two key words. -/
module

public import Idealize.ShloMosaic.PureOps

@[expose] public section

namespace Cert.Gate

open Idealize.ShloMosaic

/-- A pair of 32-bit words, the state of the mixing. -/
abbrev Pair : Type := BitVec 32 × BitVec 32

/-- A word rotated left by `r` places. -/
def rotl (r : Nat) (x : BitVec 32) : BitVec 32 := x <<< r ||| x >>> (32 - r)

/-- One round: the first word takes the sum, the second its rotation combined with that sum. -/
def mix (r : Nat) (x : Pair) : Pair := (x.1 + x.2, (x.1 + x.2) ^^^ rotl r x.2)

/-- Four rounds, with the four rotations in order. -/
def mix4 (a b c d : Nat) (x : Pair) : Pair := mix d (mix c (mix b (mix a x)))

/-- The addition of two key words. -/
def inject (k l : BitVec 32) (x : Pair) : Pair := (x.1 + k, x.2 + l)

/-- The rounds of the odd groups. -/
def odd4 (x : Pair) : Pair := mix4 13 15 26 6 x

/-- The rounds of the even groups. -/
def even4 (x : Pair) : Pair := mix4 17 29 16 24 x

/-- The third key word, from the two given. -/
def parity (k l : BitVec 32) : BitVec 32 := k ^^^ l ^^^ 466688986#32

/-- The whole generator under the key `(k, l)`. -/
def threefry (k l : BitVec 32) (x : Pair) : Pair :=
  inject (parity k l) (k + 5#32) (odd4 (inject l (parity k l + 4#32) (even4 (inject k (l + 3#32)
    (odd4 (inject (parity k l) (k + 2#32) (even4 (inject l (parity k l + 1#32) (odd4 (inject k l x))))))))))

/-- The random word of a position: the two words of the generator under the key `(0, 42)`, combined. -/
def word (n : BitVec 32) : BitVec 32 :=
  (threefry 0#32 42#32 (0#32, n)).1 ^^^ (threefry 0#32 42#32 (0#32, n)).2

end Cert.Gate
-- ==== Proof.Score.lean ====
/- The score of an entry as a plain function of its random word and of its weight, and the first greatest score of a row. -/
module

public import Idealize.ShloMosaic.PureOps.Ideal

@[expose] public section

noncomputable section

namespace Cert.Gate

open Idealize.ShloMosaic

/-- The real number a 32-bit float pattern denotes. -/
abbrev lit (b : BitVec 32) : EReal := Ideal.ofBits .f32 b

/-- The uniform draw of a random word: its upper 23 bits as a fraction, scaled into the interval from the least
    positive normal number to one. -/
def draw (b : BitVec 32) : EReal :=
  max (lit 0x00800000#32) ((lit (b >>> 9 ||| 0x3F800000#32) - lit 0x3F800000#32) * (lit 0x3F800000#32 - lit 0x00800000#32) + lit 0x00800000#32)

/-- The score of an entry: its Gumbel draw plus the logarithm of its weight. -/
def score (b : BitVec 32) (x : EReal) : EReal :=
  -Ideal.log (-Ideal.log (draw b)) + Ideal.log (x + lit 0x1E3CE508#32)

/-- `c` is the first index of the greatest of the scores `s`. -/
def IsFirstMax {n : Nat} (s : Fin n → EReal) (c : Nat) : Prop :=
  ∃ h : c < n, (∀ k, s k ≤ s ⟨c, h⟩) ∧ ∀ k : Fin n, k.val < c → s k < s ⟨c, h⟩

/-- There is only one such index. -/
theorem IsFirstMax.unique {n : Nat} {s : Fin n → EReal} {c d : Nat} (hc : IsFirstMax s c) (hd : IsFirstMax s d) : c = d := by
  obtain ⟨c1, c2, c3⟩ := hc
  obtain ⟨d1, d2, d3⟩ := hd
  rcases Nat.lt_trichotomy c d with h | h | h
  · exact absurd (d3 ⟨c, c1⟩ h) (not_lt.2 (c2 _))
  · exact h
  · exact absurd (c3 ⟨d, d1⟩ h) (not_lt.2 (d2 _))

end Cert.Gate

end
-- ==== Proof.KernelWords.lean ====
/- The random words of the kernel, read off its payloads one round at a time. -/
module

public import proofs.«01_k».proof.Proof.Words
public import proofs.«01_k».proof.Proof.Score
public import proofs.«01_k».proof.Proof.Gen.KernelIdeal.Frame
public import Idealize.ShloMosaic.Lib.Pointwise
public import Idealize.ShloMosaic.PureOps.Ideal.Laws

@[expose] public section

set_option maxRecDepth 16384

noncomputable section

namespace Cert.Gate

open Cert.KernelIdeal Cert.KernelIdeal.Gen Idealize.ShloMosaic Idealize.ShloMosaic.TcCoe

/-- One round as the kernel writes it, with the exclusive or the other way round. -/
def mixk (r : Nat) (x : Pair) : Pair := (x.1 + x.2, rotl r x.2 ^^^ (x.1 + x.2))

/-- It is the round of the generator. -/
theorem mixk_eq (r : Nat) : mixk r = mix r :=
  funext fun _ => Prod.ext rfl (BitVec.xor_comm _ _)

/-- The position of an entry of a block, as the kernel counts it: in 32 bits, row by row. -/
def spot (i : grid0.Coords) (q : S8x100000.Idx) : BitVec 32 :=
  (BitVec.ofNat 32 (i 0).val * 8#32 + BitVec.ofNat 32 (q 0).val) * 100000#32 + BitVec.ofNat 32 (q 1).val

section Rounds

variable (i : grid0.Coords) (q : S8x100000.Idx)

/-- The kernel adds the second key word to the position at once. -/
theorem spot_eq : k0_pay2 i q = spot i q + 42#32 := by
  unfold k0_pay2 spot
  pointwise
  rfl

/-! The first group. -/

/-- The first round, from the key words and the position. -/
theorem round1 : (k0_pay3 i q, k0_pay4 i q) = mixk 13 (inject 0#32 42#32 (0#32, spot i q)) := by
  have h : mixk 13 (inject 0#32 42#32 (0#32, spot i q)) = mixk 13 (0#32, k0_pay2 i q) := by
    rw [spot_eq]
    rfl
  rw [h]
  rfl

/-- The second round. -/
theorem round2 : (k0_pay5 i q, k0_pay6 i q) = mixk 15 (k0_pay3 i q, k0_pay4 i q) := rfl

/-- The third round. -/
theorem round3 : (k0_pay7 i q, k0_pay8 i q) = mixk 26 (k0_pay5 i q, k0_pay6 i q) := rfl

/-- The fourth round. -/
theorem round4 : (k0_pay9 i q, k0_pay10 i q) = mixk 6 (k0_pay7 i q, k0_pay8 i q) := rfl

/-- The pair after the first group and the addition of its key words. -/
theorem group1k : (k0_pay11 i q, k0_pay10 i q + k0_pay12 q) = inject 42#32 466689009#32 (odd4 (inject 0#32 42#32 (0#32, spot i q))) := by
  have h : (k0_pay11 i q, k0_pay10 i q + k0_pay12 q) = inject 42#32 466689009#32 (k0_pay9 i q, k0_pay10 i q) := rfl
  rw [h, round4, round3, round2, round1]
  simp only [mixk_eq]
  rfl

/-! The second group, and the first two rounds of the third. -/

section Second

variable (u v w : IVec S8x100000 32)

/-- The fifth round, its first sum taken from the words handed over. -/
theorem round5 : (k0_pay14 u v w q, k0_pay15 u v w q) = mixk 17 (v q, u q + w q) := rfl

/-- The sixth round. -/
theorem round6 : (k0_pay16 u v w q, k0_pay17 u v w q) = mixk 29 (k0_pay14 u v w q, k0_pay15 u v w q) := rfl

/-- The seventh round. -/
theorem round7 : (k0_pay18 u v w q, k0_pay19 u v w q) = mixk 16 (k0_pay16 u v w q, k0_pay17 u v w q) := rfl

/-- The eighth round, the addition of two key words, and the ninth round. -/
theorem round9 : (k0_pay22 u v w q, k0_pay23 u v w q) = mixk 13 (inject 466689008#32 2#32 (mixk 24 (k0_pay18 u v w q, k0_pay19 u v w q))) := rfl

/-- The tenth round, its last exclusive or left to the next part. -/
theorem round10 : (k0_pay24 u v w q, k0_pay25 u v w q ^^^ k0_pay24 u v w q) = mixk 15 (k0_pay22 u v w q, k0_pay23 u v w q) := rfl

/-- The pair after the second part, which hands it on as a sum and a rotation. -/
theorem group2k : (k0_pay24 u v w q, k0_pay25 u v w q ^^^ k0_pay24 u v w q) =
    mix 15 (mix 13 (inject 466689008#32 2#32 (even4 (v q, u q + w q)))) := by
  rw [round10, round9, round7, round6, round5]
  simp only [mixk_eq]
  rfl

end Second

/-! The rest of the third group, and the fourth. -/

section Third

variable (a b : IVec S8x100000 32)

/-- The eleventh round, from the sum and the rotation handed over. -/
theorem round11 : (k0_pay27 a b q, k0_pay28 a b q) = mixk 26 (a q, b q ^^^ a q) := rfl

/-- The twelfth round, the addition of two key words, and the thirteenth round. -/
theorem round13 : (k0_pay31 a b q, k0_pay32 a b q) = mixk 17 (inject 0#32 45#32 (mixk 6 (k0_pay27 a b q, k0_pay28 a b q))) := rfl

/-- The fourteenth round. -/
theorem round14 : (k0_pay33 a b q, k0_pay34 a b q) = mixk 29 (k0_pay31 a b q, k0_pay32 a b q) := rfl

/-- The fifteenth round. -/
theorem round15 : (k0_pay35 a b q, k0_pay36 a b q) = mixk 16 (k0_pay33 a b q, k0_pay34 a b q) := rfl

/-- The sixteenth round, its last exclusive or left to the next part. -/
theorem round16 : (k0_pay37 a b q, k0_pay38 a b q ^^^ k0_pay37 a b q) = mixk 24 (k0_pay35 a b q, k0_pay36 a b q) := rfl

/-- The pair after the third part, which hands it on as a sum and a rotation. -/
theorem group4k : (k0_pay37 a b q, k0_pay38 a b q ^^^ k0_pay37 a b q) =
    even4 (inject 0#32 45#32 (mix 6 (mix 26 (a q, b q ^^^ a q)))) := by
  rw [round16, round15, round14, round13, round11]
  simp only [mixk_eq]
  rfl

/-- The two words of a pair combined. -/
def joined (x : Pair) : BitVec 32 := x.1 ^^^ x.2

/-- One round on whole blocks, as the fourth part writes it: the sum, and the rotation combined with it. -/
def turn (r l : BitVec 32) (x : IVec S8x100000 32 × IVec S8x100000 32) : IVec S8x100000 32 × IVec S8x100000 32 :=
  (addi x.1 x.2, xori (ori (shli x.2 (broadcast S8x100000 r)) (shrui x.2 (broadcast S8x100000 l))) (addi x.1 x.2))

/-- At an entry it is a round. -/
theorem turn_apply (r l : BitVec 32) (hr : r.toNat < 32) (hl : l.toNat < 32) (h : l.toNat = 32 - r.toNat) (x : IVec S8x100000 32 × IVec S8x100000 32) :
    ((turn r l x).1 q, (turn r l x).2 q) = mix r.toNat (x.1 q, x.2 q) := by
  have hs : IntOp.shli .vector (x.2 q) r = x.2 q <<< r.toNat := by
    unfold IntOp.shli
    rw [if_pos hr]
    rfl
  have hu : IntOp.shrui .vector (x.2 q) l = x.2 q >>> (32 - r.toNat) := by
    unfold IntOp.shrui
    rw [if_pos hl, ← h]
    rfl
  rw [← mixk_eq]
  refine Prod.ext rfl ?_
  show (IntOp.shli .vector (x.2 q) r ||| IntOp.shrui .vector (x.2 q) l) ^^^ (x.1 q + x.2 q) = rotl r.toNat (x.2 q) ^^^ (x.1 q + x.2 q)
  rw [hs, hu, rotl]

/-- The fraction made of a pair of blocks, less one. -/
def tail (x : IVec S8x100000 32 × IVec S8x100000 32) : FVec Ideal S8x100000 .f32 :=
  subf (bitcastToFloat .f32 (ori (shrui (xori (addi x.1 (broadcast S8x100000 466689008#32)) (addi x.2 (broadcast S8x100000 5#32)))
    (broadcast S8x100000 9#32)) (broadcast S8x100000 1065353216#32))) (broadcast S8x100000 (Scalar.ofBits .f32 0x3F800000#32))

/-- A shift by nine is within the width of a word. -/
theorem shift_nine (w : BitVec 32) : IntOp.shrui .vector w 9#32 = w >>> 9 := rfl

/-- A word read as a float, less a constant, at an entry. -/
theorem less_apply (w : IVec S8x100000 32) (c : BitVec 32) :
    subf (bitcastToFloat .f32 w) (broadcast S8x100000 (Scalar.ofBits (F := Ideal) .f32 c)) q = lit (w q) - lit c := rfl

/-- The upper bits of a word, put under a constant exponent, at an entry. -/
theorem top_apply (w : IVec S8x100000 32) (c : BitVec 32) :
    ori (shrui w (broadcast S8x100000 9#32)) (broadcast S8x100000 c) q = IntOp.shrui .vector (w q) 9#32 ||| c := rfl

/-- The last addition of key words and the joining of the pair, at an entry. -/
theorem joined_apply (x : IVec S8x100000 32 × IVec S8x100000 32) (k l : BitVec 32) :
    xori (addi x.1 (broadcast S8x100000 k)) (addi x.2 (broadcast S8x100000 l)) q = joined (inject k l (x.1 q, x.2 q)) := rfl

/-- The making of the fraction, at an entry. -/
theorem tail_apply (x : IVec S8x100000 32 × IVec S8x100000 32) :
    tail x q = lit (joined (inject 466689008#32 5#32 (x.1 q, x.2 q)) >>> 9 ||| 0x3F800000#32) - lit 0x3F800000#32 := by
  rw [tail, less_apply, top_apply, joined_apply, shift_nine]

/-- The fourth part is the fifth group and the making of the fraction. -/
theorem part4 : k0_pay39 (F := Ideal) a b = tail (turn 6#32 26#32 (turn 26#32 6#32 (turn 15#32 17#32 (turn 13#32 19#32
    (addi a (broadcast S8x100000 42#32), addi (xori b a) (broadcast S8x100000 466689012#32)))))) := rfl

/-- The fraction the fourth part makes of the pair, less one. -/
theorem group5k : k0_pay39 (F := Ideal) a b q =
    lit (joined (inject 466689008#32 5#32 (odd4 (inject 42#32 466689012#32 (a q, b q ^^^ a q)))) >>> 9 ||| 0x3F800000#32) - lit 0x3F800000#32 := by
  have e6 : (6#32 : BitVec 32).toNat = 6 := by decide
  have e26 : (26#32 : BitVec 32).toNat = 26 := by decide
  have e15 : (15#32 : BitVec 32).toNat = 15 := by decide
  have e13 : (13#32 : BitVec 32).toNat = 13 := by decide
  have hx : ((addi a (broadcast S8x100000 42#32), addi (xori b a) (broadcast S8x100000 466689012#32)).1 q,
    (addi a (broadcast S8x100000 42#32), addi (xori b a) (broadcast S8x100000 466689012#32)).2 q) = inject 42#32 466689012#32 (a q, b q ^^^ a q) := rfl
  rw [part4, tail_apply, turn_apply q _ _ (by decide) (by decide) (by decide), turn_apply q _ _ (by decide) (by decide) (by decide),
    turn_apply q _ _ (by decide) (by decide) (by decide), turn_apply q _ _ (by decide) (by decide) (by decide), e6, e26, e15, e13, hx, odd4, mix4]

end Third

/-- The generator with its key words worked out. -/
theorem word_eq (n : BitVec 32) : word n = joined (inject 466689008#32 5#32 (odd4 (inject 42#32 466689012#32 (even4 (inject 0#32 45#32
    (odd4 (inject 466689008#32 2#32 (even4 (inject 42#32 466689009#32 (odd4 (inject 0#32 42#32 (0#32, n)))))))))))) := by
  have h1 : parity 0#32 42#32 = 466689008#32 := by decide
  have h2 : (466689008#32 + 1#32) = 466689009#32 := by decide
  have h3 : (466689008#32 + 4#32) = 466689012#32 := by decide
  have h4 : (42#32 + 3#32) = 45#32 := by decide
  have h5 : (0#32 + 5#32) = 5#32 := by decide
  have h6 : (0#32 + 2#32) = 2#32 := by decide
  unfold word threefry
  rw [h1, h2, h3, h4, h5, h6]
  rfl

/-- The fraction the kernel draws at an entry of a block is that of the entry's random word, less one. -/
theorem fraction (x : Vec Ideal S8x100000 .f32) :
    k0_pay39 (F := Ideal) (k0_pay37 (k0_pay43 i x) (k0_pay44 i x)) (k0_pay38 (k0_pay43 i x) (k0_pay44 i x)) q =
      lit (word (spot i q) >>> 9 ||| 0x3F800000#32) - lit 0x3F800000#32 := by
  have h2 : (k0_pay43 i x q, k0_pay44 i x q ^^^ k0_pay43 i x q) = _ := group2k q (k0_pay10 i) (k0_pay11 i) k0_pay12
  rw [group5k, group4k, h2, group1k, word_eq]
  rfl

end Rounds

end Cert.Gate

end
-- ==== Proof.Argmax.lean ====
/- The reference's search for the greatest score of a row finds the first greatest one. -/
module

public import proofs.«01_k».proof.Proof.Score
public import proofs.«01_k».proof.Proof.Gen.ReferenceIdeal
public import Idealize.ShloMosaic.PureOps.Ideal.Laws
public import Idealize.ShloMosaic.Lib.Pointwise
public import Mathlib.Data.Prod.Lex

@[expose] public section

set_option maxRecDepth 16384

noncomputable section

namespace Cert.Gate

open Cert.ReferenceIdeal Idealize.ShloMosaic Facts₀

/-- Folding a choice of the strictly better of two, by a key in a linear order, returns an element that was there, of
    the greatest key. -/
theorem foldl_best {α κ : Type} [LinearOrder κ] (key : α → κ) (f : α → α → α)
    (hf : ∀ a b, f a b = if key b < key a then a else b) (l : List α) (r : α) :
    l.foldl f r ∈ r :: l ∧ ∀ p ∈ r :: l, key p ≤ key (l.foldl f r) := by
  induction l generalizing r with
  | nil => simp
  | cons q l ih =>
    obtain ⟨h1, h2⟩ := ih (f r q)
    have hm : f r q = r ∨ f r q = q := by
      rw [hf]; split
      · exact .inl rfl
      · exact .inr rfl
    have hr : key r ≤ key (f r q) ∧ key q ≤ key (f r q) := by
      rw [hf]; split
      · next h => exact ⟨le_rfl, h.le⟩
      · next h => exact ⟨not_lt.1 h, le_rfl⟩
    rw [List.foldl_cons]
    have hb := h2 _ List.mem_cons_self
    constructor
    · rcases List.mem_cons.1 h1 with h | h
      · rw [h]
        rcases hm with e | e <;> simp [e]
      · simp [h]
    · intro p hp
      rcases List.mem_cons.1 hp with rfl | hp
      · exact hr.1.trans hb
      · rcases List.mem_cons.1 hp with rfl | hp
        · exact hr.2.trans hb
        · exact h2 p (List.mem_cons_of_mem _ hp)

/-- The order of the search: by value, and on equal values the smaller index first. -/
def rank (p : EReal × BitVec 32) : Lex (EReal × Intᵒᵈ) := toLex (p.1, OrderDual.toDual p.2.toInt)

/-- The order of the keys: by score, and of equal scores by the lesser index first. -/
theorem rank_lt (p q : EReal × BitVec 32) : rank p < rank q ↔ p.1 < q.1 ∨ p.1 = q.1 ∧ q.2.toInt < p.2.toInt :=
  Prod.Lex.toLex_lt_toLex

/-- The search's step keeps the better of two pairs. -/
theorem reducer_eq (a b : EReal × BitVec 32) :
    reducer_argmax_f32_i32 (F := Ideal) a b = if rank b < rank a then a else b := by
  obtain ⟨x, i⟩ := a
  obtain ⟨y, j⟩ := b
  have e : reducer_argmax_f32_i32 (F := Ideal) (x, i) (y, j) =
      (Scalar.select (IntOp.ori (Ideal.cmp .ogt x y) (Ideal.cmp .une x x)) x y,
       Scalar.select (IntOp.ori (IntOp.ori (Ideal.cmp .ogt x y) (Ideal.cmp .une x x)) (IntOp.andi (Ideal.cmp .oeq x y) (IntOp.cmpi .slt i j))) i j) := rfl
  rw [e]
  simp only [rank_lt]
  by_cases h1 : y < x <;> by_cases h2 : x = y <;> by_cases h3 : i.toInt < j.toInt <;>
    simp [h1, h2, h3, Ideal.cmp, IntOp.ori, IntOp.andi, IntOp.cmpi, Scalar.select, BitVec.slt, eq_comm]

/-- Removing the column of an index leaves its row. -/
theorem drop_row (h : S128x100000.ReducesTo [1] S128) (i : S128x100000.Idx) (j : S128.Idx) : h.drop i = j ↔ i 0 = j 0 := by
  have e : h.drop i 0 = i 0 := rfl
  constructor
  · rintro rfl
    exact e.symm
  · intro hi
    funext a
    match a with
    | ⟨0, _⟩ => exact hi

/-- The pairs the search runs over in a row are the scores of that row, each with its column number. -/
theorem mem_fiber (h : S128x100000.ReducesTo [1] S128) (x : S128x100000.Idx → EReal) (j : S128.Idx) (p : EReal × BitVec 32) :
    p ∈ Host.argReduceFiber x (iotaInDim S128x100000 32 1) h j ↔ ∃ k : Fin 100000, p = (x (ix2 (j 0) k), BitVec.ofNat 32 k.val) := by
  simp only [Host.argReduceFiber, List.mem_map, List.mem_filter, List.mem_finRange, true_and, decide_eq_true_eq, drop_row]
  constructor
  · rintro ⟨n, hn, rfl⟩
    refine ⟨S128x100000.rowMajor.symm n 1, ?_⟩
    have e : S128x100000.rowMajor.symm n = ix2 (j 0) (S128x100000.rowMajor.symm n 1) := by
      funext a
      match a with
      | ⟨0, _⟩ => exact hn
      | ⟨1, _⟩ => rfl
    exact Prod.ext (congrArg x e) rfl
  · rintro ⟨k, rfl⟩
    refine ⟨S128x100000.rowMajor (ix2 (j 0) k), ?_, ?_⟩
    · rw [Equiv.symm_apply_apply]
      rfl
    · rw [Equiv.symm_apply_apply]
      rfl

/-- A column number read as a signed word. -/
theorem toInt_col (k : Fin 100000) : (BitVec.ofNat 32 k.val).toInt = (k.val : Int) := by
  have := k.isLt
  rw [BitVec.toInt_eq_toNat_of_lt] <;> rw [BitVec.toNat_ofNat] <;> omega

/-- The search's index is the first greatest of the row's scores. -/
theorem argReduce_isFirstMax (h : S128x100000.ReducesTo [1] S128) (hu : 0 < S_.numel) (x : S128x100000.Idx → EReal) (j : S128.Idx) :
    ∃ c : Nat, (Host.argReduce (φ := .f32) (reducer_argmax_f32_i32 (F := Ideal)) x (iotaInDim S128x100000 32 1)
      (constant (F := Ideal) S_ .f32 0xFF800000#32) (constantI S_ 32 0#32) h hu j).2 = BitVec.ofNat 32 c
      ∧ IsFirstMax (fun k : Fin 100000 => x (ix2 (j 0) k)) c := by
  have hb : lit 0xFF800000#32 = ⊥ := by simp [lit, Ideal.ofBits, Ideal.ieee]
  rw [Ideal.argReduce_eq_reduce2, Host.reduce2_eq_foldl_fiber]
  obtain ⟨h1, h2⟩ := foldl_best rank _ reducer_eq (Host.argReduceFiber x (iotaInDim S128x100000 32 1) h j) (lit 0xFF800000#32, 0#32)
  change ∃ c : Nat, ((Host.argReduceFiber x (iotaInDim S128x100000 32 1) h j).foldl (reducer_argmax_f32_i32 (F := Ideal)) (lit 0xFF800000#32, 0#32)).2
    = BitVec.ofNat 32 c ∧ _
  generalize (Host.argReduceFiber x (iotaInDim S128x100000 32 1) h j).foldl (reducer_argmax_f32_i32 (F := Ideal)) (lit 0xFF800000#32, 0#32) = r at h1 h2 ⊢
  have hall (k : Fin 100000) : rank (x (ix2 (j 0) k), BitVec.ofNat 32 k.val) ≤ rank r :=
    h2 _ (List.mem_cons_of_mem _ ((mem_fiber h x j _).2 ⟨k, rfl⟩))
  -- the result is the pair of some column
  have hcol : ∃ k : Fin 100000, r = (x (ix2 (j 0) k), BitVec.ofNat 32 k.val) := by
    rcases List.mem_cons.1 h1 with e | e
    · have hpos : 0 < 100000 := by decide
      have h0 := not_lt.2 (hall ⟨0, hpos⟩)
      rw [rank_lt, not_or, e, hb] at h0
      have hz : x (ix2 (j 0) ⟨0, hpos⟩) = ⊥ := not_bot_lt_iff.1 h0.1
      refine ⟨⟨0, hpos⟩, ?_⟩
      rw [e, hb, hz]
    · exact (mem_fiber h x j r).1 e
  obtain ⟨c, rfl⟩ := hcol
  refine ⟨c.val, rfl, c.isLt, fun k => ?_, fun k hk => ?_⟩
  · have := not_lt.2 (hall k)
    rw [rank_lt, not_or] at this
    exact not_lt.1 this.1
  · have := not_lt.2 (hall k)
    rw [rank_lt, not_or, toInt_col, toInt_col] at this
    refine lt_of_le_of_ne (not_lt.1 this.1) fun e => this.2 ⟨e.symm, by exact_mod_cast hk⟩

end Cert.Gate

end
-- ==== Proof.RowSearch.lean ====
/- The kernel's search for the greatest score of a row, over plain rows: the greatest score by a fold, and the least of the
   columns that attain it. -/
module

public import proofs.«01_k».proof.Proof.Argmax

@[expose] public section

set_option maxRecDepth 16384

noncomputable section

namespace Cert.Gate

open Idealize.ShloMosaic

/-- A nonempty row has a first greatest score. -/
theorem exists_isFirstMax {n : Nat} (hn : 0 < n) (s : Fin n → EReal) : ∃ c, IsFirstMax s c := by
  obtain ⟨k, -, hk⟩ := Finset.exists_max_image Finset.univ s ⟨⟨0, hn⟩, Finset.mem_univ _⟩
  obtain ⟨c, hc, hmin⟩ := Finset.exists_min_image (Finset.univ.filter fun j => s j = s k) (fun j => j.val) ⟨k, by simp⟩
  have hc' : s c = s k := (Finset.mem_filter.1 hc).2
  refine ⟨c.val, c.isLt, fun j => (hk j (Finset.mem_univ _)).trans hc'.ge, fun j hj => ?_⟩
  refine lt_of_le_of_ne ((hk j (Finset.mem_univ _)).trans hc'.ge) fun e => ?_
  exact absurd (hmin j (Finset.mem_filter.2 ⟨Finset.mem_univ _, e.trans hc'⟩)) (not_le.2 hj)

/-- The fold of the greater of two, from the least extended real, is the score of the first greatest column. -/
theorem fold_max_eq {n : Nat} {s : Fin n → EReal} {c : Nat} (hc : IsFirstMax s c) :
    (Finset.univ : Finset (Fin n)).fold max ⊥ s = s ⟨c, hc.1⟩ := by
  obtain ⟨h, hmax, -⟩ := hc
  refine le_antisymm ((Finset.fold_max_le _).2 ⟨bot_le, fun k _ => hmax k⟩) ?_
  exact (Finset.le_fold_max _).2 (.inr ⟨⟨c, h⟩, Finset.mem_univ _, le_rfl⟩)

/-- The lesser of two words, signed, has the lesser of the two integers. -/
theorem toInt_minsi (x y : BitVec 32) : (IntOp.minsi x y).toInt = min x.toInt y.toInt := by
  unfold IntOp.minsi
  simp only [BitVec.slt, decide_eq_true_eq]
  split_ifs <;> omega

/-- The least column that attains the greatest score, every other column standing as the largest word, is the first. -/
theorem fold_min_eq {s : Fin 100000 → EReal} {c : Nat} (hc : IsFirstMax s c) (M : EReal) (hM : M = s ⟨c, hc.1⟩) :
    (Finset.univ : Finset (Fin 100000)).fold IntOp.minsi 2147483647#32
      (fun k => if s k = M then BitVec.ofNat 32 k.val else 2147483647#32) = BitVec.ofNat 32 c := by
  subst hM
  obtain ⟨h, hmax, hfirst⟩ := hc
  have top : (2147483647#32 : BitVec 32).toInt = 2147483647 := by decide
  have col : (BitVec.ofNat 32 c).toInt = c := toInt_col ⟨c, h⟩
  have hc' : (c : Int) < 100000 := by exact_mod_cast h
  apply BitVec.eq_of_toInt_eq
  rw [← Finset.fold_hom (op' := min) (m := BitVec.toInt) toInt_minsi, top, col]
  refine le_antisymm ((Finset.fold_min_le _).2 (.inr ⟨⟨c, h⟩, Finset.mem_univ _, ?_⟩)) ((Finset.le_fold_min _).2 ⟨by omega, fun k _ => ?_⟩)
  · rw [if_pos rfl, col]
  · split
    · next e =>
      rw [toInt_col k]
      exact_mod_cast not_lt.1 fun hk => (hfirst k hk).ne e
    · rw [top]; omega

/-- A comparison of columns, counted as zero or one, is the same number whether it is made on words or on reals. -/
theorem gate_eq (a b : BitVec 32) :
    FloatOps.sitofp (F := Ideal) .f32 ((IntOp.cmpi .slt a b).setWidth 32) =
      FloatOps.uitofp (F := Ideal) .f32 (Ideal.cmp .olt ((a.toInt : ℝ) : EReal) ((b.toInt : ℝ) : EReal)) := by
  by_cases h : a.toInt < b.toInt
  · have h1 : IntOp.cmpi .slt a b = 1#1 := by simp [IntOp.cmpi, BitVec.slt, h]
    have h2 : Ideal.cmp .olt ((a.toInt : ℝ) : EReal) ((b.toInt : ℝ) : EReal) = 1#1 := by simp [Ideal.cmp, h]
    rw [h1, h2]
    show ((((1#1 : BitVec 1).setWidth 32).toInt : ℝ) : EReal) = (((1#1 : BitVec 1).toNat : ℝ) : EReal)
    simp
  · have h1 : IntOp.cmpi .slt a b = 0#1 := by simp [IntOp.cmpi, BitVec.slt, h]
    have h2 : Ideal.cmp .olt ((a.toInt : ℝ) : EReal) ((b.toInt : ℝ) : EReal) = 0#1 := by simp [Ideal.cmp, h]
    rw [h1, h2]
    show ((((0#1 : BitVec 1).setWidth 32).toInt : ℝ) : EReal) = (((0#1 : BitVec 1).toNat : ℝ) : EReal)
    simp

end Cert.Gate

end
-- ==== Proof.KernelBlock.lean ====
/- What one grid point of the kernel writes: each row of its block is cut after the first greatest score of the row. -/
module

public import proofs.«01_k».proof.Proof.KernelWords
public import proofs.«01_k».proof.Proof.RowSearch

@[expose] public section

set_option maxRecDepth 16384

noncomputable section

namespace Cert.Gate

open Cert.KernelIdeal Cert.KernelIdeal.Gen Idealize.ShloMosaic Idealize.ShloMosaic.TcCoe

/-- The column of each entry of a block. -/
abbrev cols : IVec S8x100000 32 := iota .tc S8x100000 32 [1] iota_S8x100000_d1_w32

/-- The scores of a block from its fractions and its weights, the constants being left open. -/
def scoresOf (one tiny zero eps : BitVec 32) (d x : FVec Ideal S8x100000 .f32) : FVec Ideal S8x100000 .f32 :=
  addf (subf (broadcast S8x100000 (Scalar.ofBits .f32 zero)) (log (subf (broadcast S8x100000 (Scalar.ofBits .f32 zero))
    (log (maximumf (broadcast S8x100000 (Scalar.ofBits .f32 tiny)) (addf (mulf d (broadcast S8x100000
      (Scalar.subf (Scalar.ofBits .f32 one) (Scalar.ofBits .f32 tiny)))) (broadcast S8x100000 (Scalar.ofBits .f32 tiny))))))))
    (log (addf x (broadcast S8x100000 (Scalar.ofBits .f32 eps))))

/-- The scores at an entry. -/
theorem scoresOf_apply (one tiny zero eps : BitVec 32) (d x : FVec Ideal S8x100000 .f32) (q : S8x100000.Idx) :
    scoresOf one tiny zero eps d x q = (lit zero - Ideal.log (lit zero - Ideal.log (max (lit tiny) (d q * (lit one - lit tiny) + lit tiny))))
      + Ideal.log (x q + lit eps) := rfl

/-- The greatest score of each row. -/
def peaks (s : FVec Ideal S8x100000 .f32) : FVec Ideal S8 .f32 :=
  multiReduction .maximumf [1] S8 s 0xFF800000#32 reduces_S8x100000_S8 (.inl rfl) rfl

/-- The columns that attain it, the others standing as the largest word. -/
def attained (s : FVec Ideal S8x100000 .f32) : IVec S8x100000 32 :=
  select (cmpf .oeq s (broadcastTo S8x100000 (shapeCast S8x1 (peaks s) shapeCasts_S8_S8x1) broadcasts_S8x1_S8x100000)) cols
    (broadcast S8x100000 2147483647#32)

/-- The least of them in each row. -/
def firsts (s : FVec Ideal S8x100000 .f32) : IVec S8 32 :=
  multiReductionI .minsi [1] S8 (attained s) 2147483647#32 reduces_S8x100000_S8 rfl

/-- The block written: one before that column, zero from it on. -/
def answer (f : IVec S8 32) : FVec Ideal S8x99999 .f32 :=
  sitofp .f32 (extui 32 (cmpi .slt (extractStridedSlice S8x99999 ![0, 0] cols slices_S8x100000_o0_0_S8x99999)
    (broadcastTo S8x99999 (shapeCast S8x1 f shapeCasts_S8_S8x1) broadcasts_S8x1_S8x99999)) natLt_1_32)

/-- The payload of the kernel's store in these terms. -/
theorem payload (d : FVec Ideal S8x100000 .f32) (x : Vec Ideal S8x100000 .f32) :
    k0_pay1 (F := Ideal) cols d x = answer (firsts (scoresOf 0x3F800000#32 0x00800000#32 0x00000000#32 0x1E3CE508#32 d x)) := rfl

/-- The block written, at an entry. -/
theorem answer_apply (f : IVec S8 32) (y : S8x99999.Idx) :
    answer f y = FloatOps.sitofp (F := Ideal) .f32 ((IntOp.cmpi .slt (BitVec.ofNat 32 (y 1).val) (f (ix1 (y 0)))).setWidth 32) := by
  unfold answer cols
  pointwise

/-- Whether an entry attains the greatest score of its row, and in which column. -/
theorem attained_apply (s : FVec Ideal S8x100000 .f32) (q : S8x100000.Idx) :
    attained s q = if s q = peaks s (ix1 (q 0)) then BitVec.ofNat 32 (q 1).val else 2147483647#32 := by
  have h : attained s q = Scalar.select (Ideal.cmp .oeq (s q) (peaks s (ix1 (q 0)))) (BitVec.ofNat 32 (q 1).val) 2147483647#32 := by
    unfold attained cols
    pointwise
  rw [h]
  unfold Scalar.select
  refine if_congr ?_ rfl rfl
  by_cases e : s q = peaks s (ix1 (q 0)) <;> simp [Ideal.cmp, e]

/-- The scores of a row of a block. -/
abbrev rowOf (s : FVec Ideal S8x100000 .f32) (r : Fin 8) (k : Fin 100000) : EReal := s (ix2 r k)

/-- The entry of a row at a column, as the reductions name it. -/
theorem lift_row (r : Fin 8) (k : Fin 100000) : reduces_S8x100000_S8.lift (ix1 r) k = (ix2 r k : S8x100000.Idx) := by
  funext a
  match a with
  | ⟨0, _⟩ => rfl
  | ⟨1, _⟩ => rfl

/-- The greatest score of a row is a fold along it. -/
theorem peaks_apply (s : FVec Ideal S8x100000 .f32) (r : Fin 8) :
    peaks s (ix1 r) = (Finset.univ : Finset (Fin 100000)).fold max ⊥ (rowOf s r) := by
  refine (Ideal.multiReduction_maximumf_single s 0xFF800000#32 reduces_S8x100000_S8 (.inl rfl) rfl (ix1 r)).trans ?_
  have h0 : FloatOps.ofBits (F := Ideal) .f32 0xFF800000#32 = (⊥ : EReal) := by
    show lit 0xFF800000#32 = ⊥
    simp [lit, Ideal.ofBits, Ideal.ieee]
  rw [h0]
  exact congrArg (fun f : Fin 100000 → EReal => (Finset.univ : Finset (Fin 100000)).fold max ⊥ f) (funext fun k => congrArg s (lift_row r k))

/-- The least attaining column of a row is a fold along it. -/
theorem firsts_apply (s : FVec Ideal S8x100000 .f32) (r : Fin 8) :
    firsts s (ix1 r) = (Finset.univ : Finset (Fin 100000)).fold IntOp.minsi 2147483647#32 (fun k => attained s (ix2 r k)) := by
  refine (multiReductionI_eq_fold .minsi (attained s) 2147483647#32 reduces_S8x100000_S8 rfl (ix1 r)).trans ?_
  rw [reduces_S8x100000_S8.fold_filter_drop_single]
  exact congrArg (fun f : Fin 100000 → BitVec 32 => (Finset.univ : Finset (Fin 100000)).fold IntOp.minsi 2147483647#32 f)
    (funext fun k => congrArg (attained s) (lift_row r k))

/-- The column found in a row is the first of the greatest score. -/
theorem firsts_isFirstMax (s : FVec Ideal S8x100000 .f32) (r : Fin 8) :
    ∃ c, firsts s (ix1 r) = BitVec.ofNat 32 c ∧ IsFirstMax (rowOf s r) c := by
  obtain ⟨c, hc⟩ := exists_isFirstMax (by decide) (rowOf s r)
  refine ⟨c, ?_, hc⟩
  rw [firsts_apply, ← fold_min_eq hc (peaks s (ix1 r)) ((peaks_apply s r).trans (fold_max_eq hc))]
  congr 1
  funext k
  exact attained_apply s (ix2 r k)

/-- The fractions the kernel draws at a grid point. -/
abbrev fractions (i : grid0.Coords) (x : Vec Ideal S8x100000 .f32) : FVec Ideal S8x100000 .f32 :=
  k0_pay39 (F := Ideal) (k0_pay37 (k0_pay43 i x) (k0_pay44 i x)) (k0_pay38 (k0_pay43 i x) (k0_pay44 i x))

/-- The kernel's scores are the scores of the random words of their entries. -/
theorem scored (i : grid0.Coords) (x : Vec Ideal S8x100000 .f32) (q : S8x100000.Idx) :
    scoresOf 0x3F800000#32 0x00800000#32 0x00000000#32 0x1E3CE508#32 (fractions i x) x q = score (word (spot i q)) (x q) := by
  have hz : lit 0x00000000#32 = 0 := Ideal.ofBits_zero_f32
  have hf : fractions i x q = _ := fraction i q x
  rw [scoresOf_apply, hf, hz, zero_sub, zero_sub, score, draw]

/-- What a grid point writes at an entry, from its block of weights. -/
theorem block_apply (i : grid0.Coords) (x : Vec Ideal S8x100000 .f32) (y : S8x99999.Idx) :
    ∃ c, IsFirstMax (fun k : Fin 100000 => score (word (spot i (ix2 (y 0) k))) (x (ix2 (y 0) k))) c ∧
      k0_pay1 (F := Ideal) cols (fractions i x) x y =
        FloatOps.sitofp (F := Ideal) .f32 ((IntOp.cmpi .slt (BitVec.ofNat 32 (y 1).val) (BitVec.ofNat 32 c)).setWidth 32) := by
  obtain ⟨c, hc, hm⟩ := firsts_isFirstMax (scoresOf 0x3F800000#32 0x00800000#32 0x00000000#32 0x1E3CE508#32 (fractions i x) x) (y 0)
  refine ⟨c, ?_, ?_⟩
  · have e := funext fun k : Fin 100000 => scored i x (ix2 (y 0) k)
    exact e ▸ hm
  · rw [payload, answer_apply, hc]

end Cert.Gate

end
-- ==== Proof.KernelArray.lean ====
/- The kernel's result array: what the grid points write, put together row by row. -/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.Gate

open Cert.KernelIdeal Cert.KernelIdeal.Gen Idealize.ShloMosaic Idealize.ShloMosaic.TcCoe

variable (m : (ℓ : Loc nD τ sig) → Buf (Elt Ideal) ℓ)

/-- Both windows walk down the rows, eight at a time. -/
theorem index_eq : ∀ t : Fin cfg0.N, win0_0.index t = ![(grid0.coords t 0).val, 0] ∧ win0_1.index t = ![(grid0.coords t 0).val, 0] :=
  (by decide +kernel : ∀ t : Fin grid0.N, _)

/-- The block of weights at a grid point, read in the argument. -/
theorem weights_apply (c : Dev nD) (t : Fin cfg0.N) (r : Fin 8) (k : Fin 100000) (R : Fin 128) (hR : R.val = (grid0.coords t 0).val * 8 + r.val) :
    iblk m c 0 t (ix2 r k) = m ((c.tc : Thread nD τ).loc main_arg0) (ix2 R k) := by
  blk_ext [iblk, V, index_eq t]

/-- A whole array is the kernel's result when each grid point's block of it is what the point writes. -/
theorem array_eq (c : Dev nD) (G : S128x99999.Idx → EReal)
    (hG : ∀ (t : Fin cfg0.N) (y : S8x99999.Idx) (j : S128x99999.Idx), (j 0).val = (grid0.coords t 0).val * 8 + (y 0).val → (j 1).val = (y 1).val →
      k0_pay1 (F := Ideal) cols (fractions (grid0.coords t) (iblk m c 0 t)) (iblk m c 0 t) y = G j) :
    (dats m 0 c).arrAt 1 cfg0.N = G := by
  refine (dats m 0 c).arrAt_eq_of_covers 1 _ (by decide +kernel) fun t hf y => ?_
  blk_simp
  rw [after0_1]
  frame_out
  refine hG t _ _ ?_ ?_
  all_goals blk_simp [index_eq t]

end Cert.Gate

end
-- ==== Proof.Result.lean ====
/- The result both programs compute, as one function of the weights: a row holds one before the first column of greatest
   score, and zero from that column on. -/
module

public import proofs.«01_k».proof.Proof.Words
public import proofs.«01_k».proof.Proof.RowSearch

@[expose] public section

noncomputable section

namespace Cert.Gate

open Idealize.ShloMosaic

/-- The score of an entry of the matrix of weights, its random word being that of its position. -/
def entryScore (a : Fin 128 → Fin 100000 → EReal) (r : Fin 128) (k : Fin 100000) : EReal :=
  score (word (BitVec.ofNat 32 (r.val * 100000 + k.val))) (a r k)

/-- The first column of greatest score in a row. -/
def chosen (a : Fin 128 → Fin 100000 → EReal) (r : Fin 128) : Nat :=
  (exists_isFirstMax (by decide) (entryScore a r)).choose

/-- It is what its name says. -/
theorem chosen_spec (a : Fin 128 → Fin 100000 → EReal) (r : Fin 128) : IsFirstMax (entryScore a r) (chosen a r) :=
  (exists_isFirstMax (by decide) (entryScore a r)).choose_spec

/-- The entry of the result: whether the column comes before the chosen one, as a number. -/
def gate (a : Fin 128 → Fin 100000 → EReal) (r : Fin 128) (k : Fin 99999) : EReal :=
  FloatOps.uitofp (F := Ideal) .f32 (Ideal.cmp .olt (((BitVec.ofNat 32 k.val).toInt : ℝ) : EReal) (((BitVec.ofNat 32 (chosen a r)).toInt : ℝ) : EReal))

end Cert.Gate

end
-- ==== Proof.KernelResult.lean ====
/- The kernel's result array is the common result at its weights. -/
module

public import proofs.«01_k».proof.Proof.KernelArray
public import proofs.«01_k».proof.Proof.Result

@[expose] public section

set_option maxRecDepth 16384

noncomputable section

namespace Cert.Gate

open Cert.KernelIdeal Cert.KernelIdeal.Gen Idealize.ShloMosaic Idealize.ShloMosaic.TcCoe Idealize.SL.Sem

/-- The position of an entry of a block is that of its place in the whole matrix. -/
theorem spot_place (i : grid0.Coords) (r : Fin 8) (k : Fin 100000) (R : Fin 128) (hR : R.val = (i 0).val * 8 + r.val) :
    spot i (ix2 r k) = BitVec.ofNat 32 (R.val * 100000 + k.val) := by
  rw [hR, BitVec.ofNat_add, BitVec.ofNat_mul, BitVec.ofNat_add, BitVec.ofNat_mul]
  rfl

variable (m : (ℓ : Loc nD τ sig) → Buf (Elt Ideal) ℓ)

/-- The weights as the kernel is given them. -/
abbrev kernelWeights (c : Dev nD) (r : Fin 128) (k : Fin 100000) : EReal :=
  m ((c.tc : Thread nD τ).loc main_arg0) (ix2 r k : S128x100000.Idx)

/-- The kernel's result array. -/
theorem kernel_array (c : Dev nD) :
    (dats m 0 c).arrAt 1 cfg0.N = (fun j => gate (kernelWeights m c) (j 0) (j 1) : S128x99999.Idx → EReal) := by
  refine array_eq m c _ fun t y j h0 h1 => ?_
  obtain ⟨k, hk, e⟩ := block_apply (grid0.coords t) (iblk m c 0 t) y
  have hs : (fun k : Fin 100000 => score (word (spot (grid0.coords t) (ix2 (y 0) k))) (iblk m c 0 t (ix2 (y 0) k))) = entryScore (kernelWeights m c) (j 0) := by
    funext k
    rw [spot_place (grid0.coords t) (y 0) k (j 0) h0, weights_apply m c t (y 0) k (j 0) h0]
    rfl
  have hk' : IsFirstMax (entryScore (kernelWeights m c) (j 0)) k := hs ▸ hk
  rw [e, gate_eq, hk'.unique (chosen_spec _ _), ← h1]
  rfl

end Cert.Gate

end
-- ==== Proof.RefOps.lean ====
/- The reference program as straight lines of host operations, one list per stretch of its text. -/
module

public import proofs.«01_k».proof.Proof.Gen.ReferenceIdeal
public import Idealize.ShloMosaic.Lib.StableHlo.RunHlo
public import Idealize.ShloMosaic.PureOps.Ideal

@[expose] public section

set_option maxRecDepth 16384

noncomputable section

namespace Cert.ReferenceIdeal.Line

open Cert.ReferenceIdeal Idealize.ShloMosaic Idealize.ShloMosaic.StableHlo Idealize.SL.Sem

section General

variable {nD : Nat} {τ : Topo} {sig : RefSig} {Val : EltTy → Type} {Λ : Labels}

/-- Two lines run one after the other are the line of both lists. -/
theorem isSeq_append {p q : Prog (TpuEff nD τ sig Val Λ .tc) PUnit} {l₁ l₂ : List (HloOp τ sig Val)}
    (hp : IsSeq p l₁) (hq : IsSeq q l₂) : IsSeq (p >>= fun _ => q) (l₁ ++ l₂) := by
  unfold IsSeq at *
  rw [hp, hq, seq_append]

end General

/-- The effects of the reference's programs. -/
abbrev Step : Type 1 := Prog (TpuEff nD τ sig (Elt Ideal) (Pipeline.Sig Λ₀ (Fin 0) fun p => (pcfgs (F := Ideal) p).Adm) .tc) PUnit

/-- The operations of a program that is a straight line. -/
abbrev Line (p : Step) : Type := {ops : List (HloOp τ sig (Elt Ideal)) // IsSeq p ops}

/-- Statements 1 to 60 of the generator. -/
def part0 : Line (fn_threefry2x32.body_part0 main_call0_call0.v4 main_call0_call0.v6 main_call0_call0.v17 main_call0_call0.v16 main_call0_call0_call0) := by
  apply Subtype.mk
  unfold fn_threefry2x32.body_part0
  hlo_seq

/-- Statements 61 to 120 of the generator. -/
def part1 : Line (fn_threefry2x32.body_part1 main_call0_call0.v4 main_call0_call0.v6 main_call0_call0.v17 main_call0_call0.v16 main_call0_call0_call0) := by
  apply Subtype.mk
  unfold fn_threefry2x32.body_part1
  hlo_seq

/-- Statements 121 to 180 of the generator. -/
def part2 : Line (fn_threefry2x32.body_part2 main_call0_call0.v4 main_call0_call0.v6 main_call0_call0.v17 main_call0_call0.v16 main_call0_call0_call0) := by
  apply Subtype.mk
  unfold fn_threefry2x32.body_part2
  hlo_seq

/-- Statements 181 to 223 of the generator. -/
def part3 : Line (fn_threefry2x32.body_part3 main_call0_call0.v4 main_call0_call0.v6 main_call0_call0.v17 main_call0_call0.v16 main_call0_call0_call0) := by
  apply Subtype.mk
  unfold fn_threefry2x32.body_part3
  hlo_seq

/-- The uniform draw. -/
def uniformLine : Line (fn_uniform.body (.of main_v6) main_call0.cst main_call0.cst_0 main_call0_call0) := by
  apply Subtype.mk
  unfold fn_uniform.body fn_threefry2x32.body
  iterate 21 apply IsSeq.cons
  apply isSeq_append
  · apply isSeq_append part0.2
    apply isSeq_append part1.2
    exact isSeq_append part2.2 part3.2
  · hlo_seq

/-- The Gumbel draw. -/
def gumbelLine : Line (fn_gumbel.body (.of main_v6) main_call0) := by
  apply Subtype.mk
  unfold fn_gumbel.body
  iterate 2 apply IsSeq.cons
  apply isSeq_append uniformLine.2
  hlo_seq

/-- The index of the row maximum. -/
def argmaxLine : Line (fn_argmax.body (.of main_v11) main_call1) := by
  apply Subtype.mk
  unfold fn_argmax.body
  hlo_seq

/-- The whole reference program. -/
def mainLine (d : Dev nD) : Line (main (F := Ideal) d) := by
  apply Subtype.mk
  unfold main
  iterate 14 apply IsSeq.cons
  apply isSeq_append gumbelLine.2
  apply IsSeq.cons
  apply isSeq_append argmaxLine.2
  hlo_seq

/-- Its operations, the same list on every device. -/
abbrev ops : List (HloOp τ sig (Elt Ideal)) := (mainLine 0).1

/-- The reference program is the straight line of those operations, on every device. -/
theorem main_isSeq (d : Dev nD) : IsSeq (main (F := Ideal) d) ops := (mainLine 0).2

/-- The line has 295 operations. -/
theorem ops_length : ops.length = 295 := by rfl

/-- No operation makes a buffer of its own. -/
theorem ops_fresh : ∀ op ∈ ops, op.fresh = ∅ := by
  have h : ops.map HloOp.fresh = List.replicate 295 ∅ := by rfl
  intro op hop
  have := List.mem_map_of_mem (f := HloOp.fresh) hop
  rw [h] at this
  exact (List.mem_replicate.1 this).2

set_option maxHeartbeats 4000000 in
/-- Every operation touches only buffers of the TensorCore. -/
theorem ops_bufs : ops.Forall fun op => op.bufs ⊆ tcRefs τ sig := by
  simp only [ops, mainLine, gumbelLine, uniformLine, argmaxLine, part0, part1, part2, part3, List.forall_append,
    List.forall_cons, List.Forall, nullary_bufs_sub, unary_bufs_sub, binary_bufs_sub, reshape_bufs_sub,
    quaternary_bufs_sub, and_self]

/-- The reference program runs, and every buffer ends at the fold of the operations over its launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_hlo defs main main_isSeq (by decide) (by decide) ops_bufs ops_fresh m ρ

end Cert.ReferenceIdeal.Line

end
-- ==== Proof.RefBits.lean ====
/- The random words of the reference program, read off its straight line one group of rounds at a time. -/
module

public import proofs.«01_k».proof.Proof.RefOps
public import proofs.«01_k».proof.Proof.Words
public import Idealize.ShloMosaic.Lib.StableHlo.RunRead

@[expose] public section

set_option maxRecDepth 16384

noncomputable section

namespace Cert.ReferenceIdeal.Line

open Cert.ReferenceIdeal Idealize.ShloMosaic Idealize.ShloMosaic.StableHlo Idealize.SL.Sem Cert.Gate

/-- The contents of all buffers of a device. -/
abbrev Env : Type := Valuation τ sig (Elt Ideal)

/-- A stretch of the line: `n` operations from position `k` on. -/
abbrev seg (k n : Nat) : List (HloOp τ sig (Elt Ideal)) := (ops.drop k).take n

/-- A line run in two parts. -/
theorem after_two (l₁ l₂ : List (HloOp τ sig (Elt Ideal))) (V : Env) : after (l₁ ++ l₂) V = after l₂ (after l₁ V) := by
  induction l₁ generalizing V with
  | nil => rfl
  | cons op l ih => exact ih _

/-- The contents after `k + n` operations are those the stretch leaves from the contents after `k`. -/
theorem upto_add (V : Env) (k n : Nat) : upto ops V (k + n) = after (seg k n) (upto ops V k) := by
  unfold upto seg
  rw [List.take_add, after_two]

/-- A pair of words for every entry of the matrix. -/
abbrev Words : Type := S128x100000.Idx → Pair

/-- A matrix of words. -/
abbrev WordMat : Type := S128x100000.Idx → BitVec 32

/-- A scalar word. -/
abbrev WordScalar : Type := S_.Idx → BitVec 32

/-- Group 1 of the rounds: from the pairs `p` it leaves the pairs after four rounds and the addition of two key words. -/
theorem group1 (V : Env) (k l : BitVec 32) (p : Words)
    (hk : V (Proc.devRef .tc main_call0_call0_v6) = fun _ => k) (hl : V (Proc.devRef .tc main_call0_call0_call0_v1) = fun _ => l)
    (hx : V (Proc.devRef .tc main_call0_call0_call0_v3) = fun i => (p i).1) (hy : V (Proc.devRef .tc main_call0_call0_call0_v5) = fun i => (p i).2) :
    after (seg 44 43) V (Proc.devRef .tc main_call0_call0_call0_v35) = (fun i => (inject k (l + 1#32) (odd4 (p i))).1 : WordMat)
    ∧ after (seg 44 43) V (Proc.devRef .tc main_call0_call0_call0_v39) = (fun i => (inject k (l + 1#32) (odd4 (p i))).2 : WordMat) := by
  constructor
  · after_reads_simp
    rw [hk, hx, hy]
    rfl
  · after_reads_simp
    rw [hl, hx, hy]
    exact funext fun i => BitVec.add_assoc _ _ _

/-- Group 2 of the rounds: from the pairs `p` it leaves the pairs after four rounds and the addition of two key words. -/
theorem group2 (V : Env) (k l : BitVec 32) (p : Words)
    (hk : V (Proc.devRef .tc main_call0_call0_call0_v1) = fun _ => k) (hl : V (Proc.devRef .tc main_call0_call0_v4) = fun _ => l)
    (hx : V (Proc.devRef .tc main_call0_call0_call0_v35) = fun i => (p i).1) (hy : V (Proc.devRef .tc main_call0_call0_call0_v39) = fun i => (p i).2) :
    after (seg 87 43) V (Proc.devRef .tc main_call0_call0_call0_v69) = (fun i => (inject k (l + 2#32) (even4 (p i))).1 : WordMat)
    ∧ after (seg 87 43) V (Proc.devRef .tc main_call0_call0_call0_v73) = (fun i => (inject k (l + 2#32) (even4 (p i))).2 : WordMat) := by
  constructor
  · after_reads_simp
    rw [hk, hx, hy]
    rfl
  · after_reads_simp
    rw [hl, hx, hy]
    exact funext fun i => BitVec.add_assoc _ _ _

/-- Group 3 of the rounds: from the pairs `p` it leaves the pairs after four rounds and the addition of two key words. -/
theorem group3 (V : Env) (k l : BitVec 32) (p : Words)
    (hk : V (Proc.devRef .tc main_call0_call0_v4) = fun _ => k) (hl : V (Proc.devRef .tc main_call0_call0_v6) = fun _ => l)
    (hx : V (Proc.devRef .tc main_call0_call0_call0_v69) = fun i => (p i).1) (hy : V (Proc.devRef .tc main_call0_call0_call0_v73) = fun i => (p i).2) :
    after (seg 130 43) V (Proc.devRef .tc main_call0_call0_call0_v103) = (fun i => (inject k (l + 3#32) (odd4 (p i))).1 : WordMat)
    ∧ after (seg 130 43) V (Proc.devRef .tc main_call0_call0_call0_v107) = (fun i => (inject k (l + 3#32) (odd4 (p i))).2 : WordMat) := by
  constructor
  · after_reads_simp
    rw [hk, hx, hy]
    rfl
  · after_reads_simp
    rw [hl, hx, hy]
    exact funext fun i => BitVec.add_assoc _ _ _

/-- Group 4 of the rounds: from the pairs `p` it leaves the pairs after four rounds and the addition of two key words. -/
theorem group4 (V : Env) (k l : BitVec 32) (p : Words)
    (hk : V (Proc.devRef .tc main_call0_call0_v6) = fun _ => k) (hl : V (Proc.devRef .tc main_call0_call0_call0_v1) = fun _ => l)
    (hx : V (Proc.devRef .tc main_call0_call0_call0_v103) = fun i => (p i).1) (hy : V (Proc.devRef .tc main_call0_call0_call0_v107) = fun i => (p i).2) :
    after (seg 173 43) V (Proc.devRef .tc main_call0_call0_call0_v137) = (fun i => (inject k (l + 4#32) (even4 (p i))).1 : WordMat)
    ∧ after (seg 173 43) V (Proc.devRef .tc main_call0_call0_call0_v141) = (fun i => (inject k (l + 4#32) (even4 (p i))).2 : WordMat) := by
  constructor
  · after_reads_simp
    rw [hk, hx, hy]
    rfl
  · after_reads_simp
    rw [hl, hx, hy]
    exact funext fun i => BitVec.add_assoc _ _ _

/-- Group 5 of the rounds: from the pairs `p` it leaves the pairs after four rounds and the addition of two key words. -/
theorem group5 (V : Env) (k l : BitVec 32) (p : Words)
    (hk : V (Proc.devRef .tc main_call0_call0_call0_v1) = fun _ => k) (hl : V (Proc.devRef .tc main_call0_call0_v4) = fun _ => l)
    (hx : V (Proc.devRef .tc main_call0_call0_call0_v137) = fun i => (p i).1) (hy : V (Proc.devRef .tc main_call0_call0_call0_v141) = fun i => (p i).2) :
    after (seg 216 43) V (Proc.devRef .tc main_call0_call0_v18_0) = (fun i => (inject k (l + 5#32) (odd4 (p i))).1 : WordMat)
    ∧ after (seg 216 43) V (Proc.devRef .tc main_call0_call0_v18_1) = (fun i => (inject k (l + 5#32) (odd4 (p i))).2 : WordMat) := by
  constructor
  · after_reads_simp
    rw [hk, hx, hy]
    rfl
  · after_reads_simp
    rw [hl, hx, hy]
    exact funext fun i => BitVec.add_assoc _ _ _

end Cert.ReferenceIdeal.Line

end
-- ==== Proof.RefMixed.lean ====
/- The random words of the reference program: its key words, its positions, and the mixing as a whole. -/
module

public import proofs.«01_k».proof.Proof.RefBits
public import Idealize.ShloMosaic.Lib.StableHlo.RunRead
public import Idealize.ShloMosaic.Lib.Pipeline.Value

@[expose] public section

set_option maxRecDepth 16384

noncomputable section

namespace Cert.ReferenceIdeal.Line

open Cert.ReferenceIdeal Idealize.ShloMosaic Idealize.ShloMosaic.StableHlo Idealize.SL.Sem Cert.Gate Facts₀

/-- The buffer the operation at position `k` writes. -/
def slot (k : Fin 295) : Ref sig .tc := ⟨.hbm, ⟨k.val + 1, by have := k.isLt; show k.val + 1 < 296; omega⟩, rfl⟩

/-- The operation at each position writes the one buffer numbered after it. -/
theorem ops_writes : ops.map HloOp.writes = (List.finRange 295).map fun k => {Proc.devRef (τ := τ) .tc (slot k)} := by rfl

/-- A buffer numbered at most `k` is not written from position `k` on. -/
theorem keep (V : Env) {k n : Nat} (hkn : k ≤ n) (r : Ref sig .tc) (hr : r.idx.val ≤ k) :
    upto ops V n (Proc.devRef .tc r) = upto ops V k (Proc.devRef .tc r) := by
  obtain ⟨d, rfl⟩ := Nat.exists_eq_add_of_le hkn
  rw [upto_add]
  refine after_of_forall_not_mem _ _ fun op hop hb => ?_
  obtain ⟨j, hj, rfl⟩ := List.mem_iff_getElem.1 (List.mem_of_mem_take hop)
  have hlt : k + j < 295 := by
    rw [List.length_drop, ops_length] at hj
    omega
  have hw : (ops.map HloOp.writes)[k + j]? = some {Proc.devRef (τ := τ) .tc (slot ⟨k + j, hlt⟩)} := by
    rw [ops_writes]
    simp [hlt]
  rw [List.getElem_drop] at hb
  rw [List.getElem?_map, List.getElem?_eq_getElem (by rw [ops_length]; exact hlt)] at hw
  rw [Option.some.inj hw, Finset.mem_singleton] at hb
  have he := Proc.devRef_injective _ hb
  subst he
  have : k + j + 1 ≤ k := hr
  omega

/-- The first half of the key, before the halves are joined. -/
theorem key_low (V : Env) : upto ops V 9 (Proc.devRef .tc main_v2) = (fun _ => 0#32 : S1.Idx → BitVec 32) := by
  after_reads_simp
  rfl

/-- The second half. -/
theorem key_high (V : Env) : upto ops V 9 (Proc.devRef .tc main_v5) = (fun _ => 42#32 : S1.Idx → BitVec 32) := by
  have e : (42#32 &&& 4294967295#32 : BitVec 32) = 42#32 := by decide
  after_reads_simp
  exact funext fun _ => e

/-- The first of two single words joined. -/
theorem join_fst (a b : S1.Idx → BitVec 32) (h : Shape.Concatenates [S1, S1] S2 0) (hs : S2.Slices ![0] S1) (j : S1.Idx) :
    extractStridedSlice S1 ![0] (concatenate S2 0 [⟨S1, a⟩, ⟨S1, b⟩] h) hs j = a j :=
  concatenate_pair_apply_left 0 a b h _ rfl j fun c => by
    fin_cases c
    exact (Nat.zero_add _).symm

/-- The second of two single words joined. -/
theorem join_snd (a b : S1.Idx → BitVec 32) (h : Shape.Concatenates [S1, S1] S2 0) (hs : S2.Slices ![1] S1) (j : S1.Idx) :
    extractStridedSlice S1 ![1] (concatenate S2 0 [⟨S1, a⟩, ⟨S1, b⟩] h) hs j = b j :=
  concatenate_pair_apply_right 0 a b h _ rfl rfl j (fun c hc => absurd (Subsingleton.elim (α := Fin 1) _ _) hc) (Nat.add_comm _ _)

/-- The first key word. -/
theorem key0 (V : Env) : upto ops V 37 (Proc.devRef .tc main_call0_call0_v4) = (fun _ => 0#32 : WordScalar) := by
  after_reads_simp
  rw [key_low, key_high]
  exact funext fun i => join_fst _ _ concatenates_S1_S1_S2_d0 slices_S2_S1_0 _

/-- The second key word. -/
theorem key1 (V : Env) : upto ops V 37 (Proc.devRef .tc main_call0_call0_v6) = (fun _ => 42#32 : WordScalar) := by
  after_reads_simp
  rw [key_low, key_high]
  exact funext fun i => join_snd _ _ concatenates_S1_S1_S2_d0 slices_S2_S1_1 _

/-- The position of an entry, as the reference counts it: in 64 bits, row by row. -/
def place (i : S128x100000.Idx) : BitVec 64 :=
  100000#64 * BitVec.ofNat 64 (i 0).val + 1#64 * BitVec.ofNat 64 (i 1).val

/-- The low words of the positions. -/
theorem low (V : Env) : upto ops V 37 (Proc.devRef .tc main_call0_call0_v16) = (fun i => (place i).setWidth 32 : WordMat) := by
  after_reads_simp
  rfl

/-- The high words of the positions. -/
theorem high (V : Env) : upto ops V 37 (Proc.devRef .tc main_call0_call0_v17) = (fun i => (place i >>> 32).setWidth 32 : WordMat) := by
  after_reads_simp
  rfl

/-- What the mixing does first: the third key word, and the addition of the first two. -/
theorem start (V : Env) (k l : BitVec 32) (p : Words)
    (hk : V (Proc.devRef .tc main_call0_call0_v4) = fun _ => k) (hl : V (Proc.devRef .tc main_call0_call0_v6) = fun _ => l)
    (hx : V (Proc.devRef .tc main_call0_call0_v17) = fun i => (p i).1) (hy : V (Proc.devRef .tc main_call0_call0_v16) = fun i => (p i).2) :
    after (seg 37 7) V (Proc.devRef .tc main_call0_call0_call0_v1) = (fun _ => parity k l : WordScalar)
    ∧ after (seg 37 7) V (Proc.devRef .tc main_call0_call0_call0_v3) = (fun i => (inject k l (p i)).1 : WordMat)
    ∧ after (seg 37 7) V (Proc.devRef .tc main_call0_call0_call0_v5) = (fun i => (inject k l (p i)).2 : WordMat) := by
  refine ⟨?_, ?_, ?_⟩
  · after_reads_simp
    rw [hk, hl]
    rfl
  · after_reads_simp
    rw [hk, hx]
    rfl
  · after_reads_simp
    rw [hl, hy]
    rfl

/-- The two halves of the position of an entry. -/
def halves (i : S128x100000.Idx) : Pair := ((place i >>> 32).setWidth 32, (place i).setWidth 32)

/-- The mixing as a whole: the mixed pair of every position. -/
theorem mixed (V : Env) :
    upto ops V 259 (Proc.devRef .tc main_call0_call0_v18_0) = (fun i => (threefry 0#32 42#32 (halves i)).1 : WordMat)
    ∧ upto ops V 259 (Proc.devRef .tc main_call0_call0_v18_1) = (fun i => (threefry 0#32 42#32 (halves i)).2 : WordMat) := by
  have k0 (n : Nat) (h : 37 ≤ n) := (keep V h main_call0_call0_v4 (by decide)).trans (key0 V)
  have k1 (n : Nat) (h : 37 ≤ n) := (keep V h main_call0_call0_v6 (by decide)).trans (key1 V)
  have s := start (upto ops V 37) _ _ halves (key0 V) (key1 V) (high V) (low V)
  rw [← upto_add V 37 7] at s
  have k2 (n : Nat) (h : 44 ≤ n) := (keep V h main_call0_call0_call0_v1 (by decide)).trans s.1
  have g1 := group1 (upto ops V 44) _ _ _ (k1 44 (by decide)) (k2 44 (by decide)) s.2.1 s.2.2
  rw [← upto_add V 44 43] at g1
  have g2 := group2 (upto ops V 87) _ _ _ (k2 87 (by decide)) (k0 87 (by decide)) g1.1 g1.2
  rw [← upto_add V 87 43] at g2
  have g3 := group3 (upto ops V 130) _ _ _ (k0 130 (by decide)) (k1 130 (by decide)) g2.1 g2.2
  rw [← upto_add V 130 43] at g3
  have g4 := group4 (upto ops V 173) _ _ _ (k1 173 (by decide)) (k2 173 (by decide)) g3.1 g3.2
  rw [← upto_add V 173 43] at g4
  have g5 := group5 (upto ops V 216) _ _ _ (k2 216 (by decide)) (k0 216 (by decide)) g4.1 g4.2
  rw [← upto_add V 216 43] at g5
  exact g5

end Cert.ReferenceIdeal.Line

end
-- ==== Proof.RefScore.lean ====
/- The scores of the reference program, and its result from them. -/
module

public import proofs.«01_k».proof.Proof.RefMixed
public import proofs.«01_k».proof.Proof.Score
public import Idealize.ShloMosaic.Lib.StableHlo.RunRead
public import Idealize.ShloMosaic.Lib.Pipeline.Value

@[expose] public section

set_option maxRecDepth 16384

noncomputable section

namespace Cert.ReferenceIdeal.Line

open Cert.ReferenceIdeal Idealize.ShloMosaic Idealize.ShloMosaic.StableHlo Idealize.SL.Sem Cert.Gate Facts₀

/-- The score line: from the mixed words, the bounds of the draw and the log weights. -/
theorem score_line (V : Env) (p : Words) (y : S128x100000.Idx → EReal)
    (h0 : V (Proc.devRef .tc main_call0_call0_v18_0) = fun i => (p i).1) (h1 : V (Proc.devRef .tc main_call0_call0_v18_1) = fun i => (p i).2)
    (ht : V (Proc.devRef .tc main_call0_call0_v1) = (fun _ => lit 0x00800000#32 : S1x1.Idx → EReal))
    (ho : V (Proc.devRef .tc main_call0_call0_v2) = (fun _ => lit 0x3F800000#32 : S1x1.Idx → EReal))
    (hy : V (Proc.devRef .tc main_v9) = y) :
    after (seg 259 23) V (Proc.devRef .tc main_v11) =
      (fun i => -Ideal.log (-Ideal.log (draw ((p i).1 ^^^ (p i).2))) + y i : S128x100000.Idx → EReal) := by
  after_reads_simp
  rw [h0, h1, ht, ho, hy]
  rfl

/-- The weights, the program's argument. -/
abbrev weights (V : Env) : S128x100000.Idx → EReal := V (Proc.devRef .tc main_arg0)

/-- The bounds of the draw, and the log weights. -/
theorem bounds (V : Env) :
    upto ops V 37 (Proc.devRef .tc main_call0_call0_v1) = (fun _ => lit 0x00800000#32 : S1x1.Idx → EReal)
    ∧ upto ops V 37 (Proc.devRef .tc main_call0_call0_v2) = (fun _ => lit 0x3F800000#32 : S1x1.Idx → EReal)
    ∧ upto ops V 37 (Proc.devRef .tc main_v9) = (fun i => Ideal.log (weights V i + lit 0x1E3CE508#32) : S128x100000.Idx → EReal) := by
  refine ⟨?_, ?_, ?_⟩ <;> (after_reads_simp; rfl)

/-- The scores of the reference. -/
theorem scores (V : Env) :
    upto ops V 282 (Proc.devRef .tc main_v11) = (fun i => score ((threefry 0#32 42#32 (halves i)).1 ^^^ (threefry 0#32 42#32 (halves i)).2)
      (weights V i) : S128x100000.Idx → EReal) := by
  have b := bounds V
  have h (r : Ref sig .tc) (hr : r.idx.val ≤ 37) := keep V (show 37 ≤ 259 by decide) r hr
  have m := mixed V
  exact score_line (upto ops V 259) _ _ m.1 m.2 ((h _ (by decide)).trans b.1) ((h _ (by decide)).trans b.2.1) ((h _ (by decide)).trans b.2.2)

/-- The index of the greatest score of each row, as the reference finds it. -/
theorem picked (V : Env) :
    upto ops V 287 (Proc.devRef .tc main_v12) = (fun j => (Host.argReduce (reducer_argmax_f32_i32 (F := Ideal)) (upto ops V 282 (Proc.devRef .tc main_v11))
      (iotaInDim S128x100000 32 1) (constant (F := Ideal) S_ .f32 0xFF800000#32) (constantI S_ 32 0#32) reducesTo_S128x100000_S128_d1 h_S_ j).2 : S128.Idx → BitVec 32) := by
  rw [show upto ops V 287 = _ from upto_add V 282 5]
  generalize upto ops V 282 = W
  after_reads_simp
  rfl

/-- The result of the reference: one where the column number is below the index of its row, and zero elsewhere. -/
theorem gate_line (V : Env) (c : Fin 128 → BitVec 32) (hc : V (Proc.devRef .tc main_v12) = (fun j => c (j 0) : S128.Idx → BitVec 32)) :
    after (seg 287 8) V (Proc.devRef .tc main_v20) = (fun i =>
      FloatOps.uitofp (F := Ideal) .f32 (Ideal.cmp .olt (((BitVec.ofNat 32 (i 1).val).toInt : ℝ) : EReal) (((c (i 0)).toInt : ℝ) : EReal)) :
      S128x99999.Idx → EReal) := by
  after_reads_simp
  rw [hc]
  rfl

/-- The whole line is its first 295 operations. -/
theorem after_eq_upto (V : Env) : after ops V = upto ops V 295 := by
  rw [upto, List.take_of_length_le (Nat.le_of_eq ops_length)]

end Cert.ReferenceIdeal.Line

end
-- ==== Proof.RefResult.lean ====
/- The reference's result is the common result at its weights, and its argument stays as it was. -/
module

public import proofs.«01_k».proof.Proof.RefScore
public import proofs.«01_k».proof.Proof.Result
public import Idealize.ShloMosaic.Lib.Quiescent

@[expose] public section

set_option maxRecDepth 16384

noncomputable section

namespace Cert.ReferenceIdeal.Line

open Cert.ReferenceIdeal Idealize.ShloMosaic Idealize.ShloMosaic.StableHlo Idealize.SL.Sem Cert.Gate Facts₀

/-- The position of an entry, held in 64 bits, is the row times the row's length plus the column. -/
theorem place_eq (i : S128x100000.Idx) : place i = BitVec.ofNat 64 ((i 0).val * 100000 + (i 1).val) := by
  rw [BitVec.ofNat_add, BitVec.ofNat_mul, BitVec.mul_comm]
  show 100000#64 * _ + 1#64 * _ = 100000#64 * _ + _
  rw [BitVec.one_mul]

/-- Its upper half is zero and its lower half the position in 32 bits. -/
theorem halves_eq (i : S128x100000.Idx) : halves i = (0#32, BitVec.ofNat 32 ((i 0).val * 100000 + (i 1).val)) := by
  have h0 : (i 0).val < 128 := (i 0).isLt
  have h1 : (i 1).val < 100000 := (i 1).isLt
  have hn : (BitVec.ofNat 64 ((i 0).val * 100000 + (i 1).val)).toNat = (i 0).val * 100000 + (i 1).val := by
    rw [BitVec.toNat_ofNat]
    omega
  have hs : (i 0).val * 100000 + (i 1).val < 4294967296 := by omega
  unfold halves
  rw [place_eq]
  refine Prod.ext (BitVec.eq_of_toNat_eq ?_) (BitVec.eq_of_toNat_eq ?_)
  · rw [BitVec.toNat_setWidth, BitVec.toNat_ushiftRight, hn, Nat.shiftRight_eq_div_pow, Nat.div_eq_of_lt hs]
    rfl
  · rw [BitVec.toNat_setWidth, hn, BitVec.toNat_ofNat]

/-- The weights as the reference is given them. -/
abbrev weightsAt (V : Env) (r : Fin 128) (k : Fin 100000) : EReal := weights V (ix2 r k)

/-- The scores of the reference are those of the positions. -/
theorem scores_at (V : Env) (r : Fin 128) :
    (fun k : Fin 100000 => (upto ops V 282 (Proc.devRef .tc main_v11) : S128x100000.Idx → EReal) (ix2 r k)) = entryScore (weightsAt V) r := by
  rw [scores]
  funext k
  dsimp only
  rw [halves_eq]
  rfl

/-- The index the reference finds in a row is the chosen column. -/
theorem picked_at (V : Env) :
    upto ops V 287 (Proc.devRef .tc main_v12) = (fun j => BitVec.ofNat 32 (chosen (weightsAt V) (j 0)) : S128.Idx → BitVec 32) := by
  rw [picked]
  funext j
  obtain ⟨c, hc, hm⟩ := argReduce_isFirstMax reducesTo_S128x100000_S128_d1 h_S_ (upto ops V 282 (Proc.devRef .tc main_v11)) j
  have hm' : IsFirstMax (entryScore (weightsAt V) (j 0)) c := scores_at V (j 0) ▸ hm
  rw [hc, hm'.unique (chosen_spec _ _)]

/-- The reference's result. -/
theorem result_eq (V : Env) :
    after ops V (Proc.devRef .tc main_v20) = (fun i => gate (weightsAt V) (i 0) (i 1) : S128x99999.Idx → EReal) := by
  rw [after_eq_upto, show upto ops V 295 = _ from upto_add V 287 8]
  exact gate_line (upto ops V 287) (fun r => BitVec.ofNat 32 (chosen (weightsAt V) r)) (picked_at V)

/-- The reference never writes its argument. -/
theorem argument_kept (V : Env) : after ops V (Proc.devRef .tc main_arg0) = V (Proc.devRef .tc main_arg0) := by
  rw [after_eq_upto]
  exact keep V (Nat.zero_le 295) main_arg0 (by decide)

/-- The reference runs, its argument ends unchanged and every semaphore at zero. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => (h c main_arg0).trans (argument_kept _), sem_eq_zero_of_no_sems (by decide) r.2⟩) (run m ρ)

end Cert.ReferenceIdeal.Line

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelResult
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- The kernel and the reference, from equal weights, end with the same result, the weights unchanged. -/
theorem algebraic : Cert.algebraic_KernelIdeal_ReferenceIdeal := by
  intro m g m' g' _ hagree
  refine ⟨fun c => (fun j => Cert.Gate.gate (Cert.Gate.kernelWeights m c) (j 0) (j 1) : Cert.KernelIdeal.S128x99999.Idx → EReal),
    fun c => m ((c.tc : Thread Cert.KernelIdeal.nD Cert.KernelIdeal.τ).loc Cert.KernelIdeal.main_arg0), ?_, ?_⟩
  · refine (θ_run Cert.KernelIdeal.defs _ _).mono (fun r h c => ?_) (Cert.KernelIdeal.Value.run_blocks m g)
    exact ⟨(h c).1.trans (Cert.Gate.kernel_array m c), (h c).2, (h c).2⟩
  · refine (θ_run Cert.ReferenceIdeal.defs _ _).mono (fun r h c => ?_) (Cert.ReferenceIdeal.Line.run m' g')
    have harg := (h c Cert.ReferenceIdeal.main_arg0).trans (Cert.ReferenceIdeal.Line.argument_kept _)
    refine ⟨(h c Cert.ReferenceIdeal.main_v20).trans ((Cert.ReferenceIdeal.Line.result_eq _).trans ?_), harg.trans (hagree c), harg⟩
    have hw : Cert.ReferenceIdeal.Line.weightsAt (StableHlo.launchContents m' c) = Cert.Gate.kernelWeights m c := by
      funext r k
      exact congrFun (hagree c) _
    rw [hw]

/-- Every claim: the three programs run and leave their arguments and semaphores as they were, the idealization keeps the
    kernel's meaning, and kernel and reference agree. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Line.quiet m g, trivial, algebraic⟩

end Cert.Proof

end
